-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S512x8192 : Shape := ⟨2, ![512, 8192]⟩
abbrev S512x4096 : Shape := ⟨2, ![512, 4096]⟩
abbrev S2x512x8192 : Shape := ⟨3, ![2, 512, 8192]⟩
abbrev S2x512x512 : Shape := ⟨3, ![2, 512, 512]⟩
abbrev S8x128 : Shape := ⟨2, ![8, 128]⟩
abbrev S1 : Shape := ⟨1, ![1]⟩
abbrev S8 : Shape := ⟨1, ![8]⟩
abbrev S2x4 : Shape := ⟨2, ![2, 4]⟩
abbrev S2 : Shape := ⟨1, ![2]⟩
abbrev S_ : Shape := ⟨0, ![]⟩
abbrev S1x1 : Shape := ⟨2, ![1, 1]⟩
abbrev S1x512x4096 : Shape := ⟨3, ![1, 512, 4096]⟩
abbrev S1x512x512 : Shape := ⟨3, ![1, 512, 512]⟩
abbrev S512x512 : Shape := ⟨2, ![512, 512]⟩
abbrev S1x512x1024 : Shape := ⟨3, ![1, 512, 1024]⟩
abbrev S512x1024 : Shape := ⟨2, ![512, 1024]⟩
abbrev S1x1x1 : Shape := ⟨3, ![1, 1, 1]⟩
abbrev S1x128 : Shape := ⟨2, ![1, 128]⟩
abbrev S1x8x128 : Shape := ⟨3, ![1, 8, 128]⟩
abbrev S512x2048 : Shape := ⟨2, ![512, 2048]⟩

abbrev nBuf : Space → Nat
  | .hbm => 3
  | .vmem => 6
  | .smem => 1
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S512x8192, .f32⟩
  | .local _ .vmem, ⟨0, _⟩ => ⟨S512x8192, .f32⟩
  | .local _ .vmem, ⟨1, _⟩ => ⟨S512x4096, .bf16⟩
  | .local _ .vmem, ⟨2, _⟩ => ⟨S2x512x8192, .f32⟩
  | .local _ .vmem, ⟨3, _⟩ => ⟨S4096x512, .bf16⟩
  | .local _ .vmem, ⟨4, _⟩ => ⟨S2x512x512, .f32⟩
  | .local _ .vmem, ⟨5, _⟩ => ⟨S8x128, .f32⟩
  | .local _ .smem, ⟨0, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.smem, 0, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_1435 : BitVec 32 := 0#32
  let c0_i32_1433 : BitVec 32 := 0#32
  let c1_i32_1434 : BitVec 32 := 1#32
  let v1433 : BitVec 32 := Scalar.muli c0_i32_1433 c1_i32_1434
  let v1434 : BitVec 32 := Scalar.addi c0_i32_1435 v1433
  v1434.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_1435 : BitVec 32 := 0#32
  let c1_i32_1433 : BitVec 32 := 1#32
  let c1_i32_1434 : BitVec 32 := 1#32
  let v1433 : BitVec 32 := Scalar.muli c1_i32_1433 c1_i32_1434
  let v1434 : BitVec 32 := Scalar.addi c0_i32_1435 v1433
  v1434.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_1435 : BitVec 32 := 0#32
  let c2_i32_1433 : BitVec 32 := 2#32
  let c1_i32_1434 : BitVec 32 := 1#32
  let v1433 : BitVec 32 := Scalar.muli c2_i32_1433 c1_i32_1434
  let v1434 : BitVec 32 := Scalar.addi c0_i32_1435 v1433
  v1434.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_1435 : BitVec 32 := 0#32
  let c3_i32_1433 : BitVec 32 := 3#32
  let c1_i32_1434 : BitVec 32 := 1#32
  let v1433 : BitVec 32 := Scalar.muli c3_i32_1433 c1_i32_1434
  let v1434 : BitVec 32 := Scalar.addi c0_i32_1435 v1433
  v1434.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_1435 : BitVec 32 := 0#32
  let c4_i32_1433 : BitVec 32 := 4#32
  let c1_i32_1434 : BitVec 32 := 1#32
  let v1433 : BitVec 32 := Scalar.muli c4_i32_1433 c1_i32_1434
  let v1434 : BitVec 32 := Scalar.addi c0_i32_1435 v1433
  v1434.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_1435 : BitVec 32 := 0#32
  let c5_i32_1433 : BitVec 32 := 5#32
  let c1_i32_1434 : BitVec 32 := 1#32
  let v1433 : BitVec 32 := Scalar.muli c5_i32_1433 c1_i32_1434
  let v1434 : BitVec 32 := Scalar.addi c0_i32_1435 v1433
  v1434.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_1435 : BitVec 32 := 0#32
  let c6_i32_1433 : BitVec 32 := 6#32
  let c1_i32_1434 : BitVec 32 := 1#32
  let v1433 : BitVec 32 := Scalar.muli c6_i32_1433 c1_i32_1434
  let v1434 : BitVec 32 := Scalar.addi c0_i32_1435 v1433
  v1434.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_1435 : BitVec 32 := 0#32
  let c7_i32_1433 : BitVec 32 := 7#32
  let c1_i32_1434 : BitVec 32 := 1#32
  let v1433 : BitVec 32 := Scalar.muli c7_i32_1433 c1_i32_1434
  let v1434 : BitVec 32 := Scalar.addi c0_i32_1435 v1433
  v1434.toNat
def k0_off1 (d0 : Dev nD) (c0_i32_10 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v28 : BitVec 32 := Scalar.subi v2 c0_i32_10
  let c8_i32_11 : BitVec 32 := 8#32
  let v29 : BitVec 32 := Scalar.addi v28 c8_i32_11
  let c8_i32_12 : BitVec 32 := 8#32
  let v30 : BitVec 32 := Scalar.remsi v29 c8_i32_12
  let c512_i32 : BitVec 32 := 512#32
  let v31 : BitVec 32 := Scalar.muli v30 c512_i32
  let c0_i32_19 : BitVec 32 := 0#32
  ![v31.toNat, 0]
def k0_off2 (d0 : Dev nD) (c0_i32_10 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v28 : BitVec 32 := Scalar.subi v2 c0_i32_10
  let c8_i32_11 : BitVec 32 := 8#32
  let v29 : BitVec 32 := Scalar.addi v28 c8_i32_11
  let c8_i32_12 : BitVec 32 := 8#32
  let v30 : BitVec 32 := Scalar.remsi v29 c8_i32_12
  let c512_i32_13 : BitVec 32 := 512#32
  let v32 : BitVec 32 := Scalar.muli v30 c512_i32_13
  let c4096_i32_24 : BitVec 32 := 4096#32
  ![v32.toNat, 4096]
def k0_off3 (d0 : Dev nD) (c1_i32_25 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v43 : BitVec 32 := Scalar.addi v2 c1_i32_25
  let c8_i32_26 : BitVec 32 := 8#32
  let v44 : BitVec 32 := Scalar.remsi v43 c8_i32_26
  let c512_i32_27 : BitVec 32 := 512#32
  let v45 : BitVec 32 := Scalar.muli v44 c512_i32_27
  let c0_i32_32 : BitVec 32 := 0#32
  ![v45.toNat, 0]
def k0_off4 (d0 : Dev nD) (c1_i32_51 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v70 : BitVec 32 := Scalar.addi v2 c1_i32_51
  let c8_i32_52 : BitVec 32 := 8#32
  let v71 : BitVec 32 := Scalar.remsi v70 c8_i32_52
  let c512_i32_53 : BitVec 32 := 512#32
  let v72 : BitVec 32 := Scalar.muli v71 c512_i32_53
  let v73 : Index := Scalar.indexCast v72
  let c0_54 : Index := 0#32
  ![v73.toNat, 0]
def k0_off5 (d0 : Dev nD) : Fin 2 → Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_58 : BitVec 32 := 512#32
  let v80 : BitVec 32 := Scalar.muli v2 c512_i32_58
  ![0, v80.toNat]
def k0_dev9 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_55 : BitVec 32 := 1#32
  let v77 : BitVec 32 := Scalar.addi v2 c1_i32_55
  let c8_i32_56 : BitVec 32 := 8#32
  let v78 : BitVec 32 := Scalar.remsi v77 c8_i32_56
  let c1_i32_61 : BitVec 32 := 1#32
  let v81 : BitVec 32 := Scalar.muli v78 c1_i32_61
  let v82 : BitVec 32 := Scalar.addi c0_i32_62 v81
  v82.toNat
def k0_dev10 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_87 : BitVec 32 := 2#32
  let v115 : BitVec 32 := Scalar.addi v2 c2_i32_87
  let c8_i32_88 : BitVec 32 := 8#32
  let v116 : BitVec 32 := Scalar.remsi v115 c8_i32_88
  let c1_i32_93 : BitVec 32 := 1#32
  let v119 : BitVec 32 := Scalar.muli v116 c1_i32_93
  let v120 : BitVec 32 := Scalar.addi c0_i32_94 v119
  v120.toNat
def k0_dev11 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_120 : BitVec 32 := 3#32
  let v153 : BitVec 32 := Scalar.addi v2 c3_i32_120
  let c8_i32_121 : BitVec 32 := 8#32
  let v154 : BitVec 32 := Scalar.remsi v153 c8_i32_121
  let c1_i32_126 : BitVec 32 := 1#32
  let v157 : BitVec 32 := Scalar.muli v154 c1_i32_126
  let v158 : BitVec 32 := Scalar.addi c0_i32_127 v157
  v158.toNat
def k0_dev12 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_153 : BitVec 32 := 4#32
  let v191 : BitVec 32 := Scalar.addi v2 c4_i32_153
  let c8_i32_154 : BitVec 32 := 8#32
  let v192 : BitVec 32 := Scalar.remsi v191 c8_i32_154
  let c1_i32_159 : BitVec 32 := 1#32
  let v195 : BitVec 32 := Scalar.muli v192 c1_i32_159
  let v196 : BitVec 32 := Scalar.addi c0_i32_160 v195
  v196.toNat
def k0_dev13 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_186 : BitVec 32 := 5#32
  let v229 : BitVec 32 := Scalar.addi v2 c5_i32_186
  let c8_i32_187 : BitVec 32 := 8#32
  let v230 : BitVec 32 := Scalar.remsi v229 c8_i32_187
  let c1_i32_192 : BitVec 32 := 1#32
  let v233 : BitVec 32 := Scalar.muli v230 c1_i32_192
  let v234 : BitVec 32 := Scalar.addi c0_i32_193 v233
  v234.toNat
def k0_dev14 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_219 : BitVec 32 := 6#32
  let v267 : BitVec 32 := Scalar.addi v2 c6_i32_219
  let c8_i32_220 : BitVec 32 := 8#32
  let v268 : BitVec 32 := Scalar.remsi v267 c8_i32_220
  let c1_i32_225 : BitVec 32 := 1#32
  let v271 : BitVec 32 := Scalar.muli v268 c1_i32_225
  let v272 : BitVec 32 := Scalar.addi c0_i32_226 v271
  v272.toNat
def k0_dev15 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_252 : BitVec 32 := 7#32
  let v305 : BitVec 32 := Scalar.addi v2 c7_i32_252
  let c8_i32_253 : BitVec 32 := 8#32
  let v306 : BitVec 32 := Scalar.remsi v305 c8_i32_253
  let c1_i32_258 : BitVec 32 := 1#32
  let v309 : BitVec 32 := Scalar.muli v306 c1_i32_258
  let v310 : BitVec 32 := Scalar.addi c0_i32_259 v309
  v310.toNat
def k0_off6 (d0 : Dev nD) : Fin 2 → Nat :=
  let c0_274 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_273 : BitVec 32 := 512#32
  let v328 : BitVec 32 := Scalar.muli v2 c512_i32_273
  let v329 : Index := Scalar.indexCast v328
  ![0, v329.toNat]
def k0_off7 (d0 : Dev nD) (c0_i32_275 : BitVec 32) : Fin 2 → Nat :=
  let c0_313 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v333 : BitVec 32 := Scalar.subi v2 c0_i32_275
  let c8_i32_276 : BitVec 32 := 8#32
  let v334 : BitVec 32 := Scalar.addi v333 c8_i32_276
  let c8_i32_277 : BitVec 32 := 8#32
  let v335 : BitVec 32 := Scalar.remsi v334 c8_i32_277
  let c512_i32_312 : BitVec 32 := 512#32
  let v366 : BitVec 32 := Scalar.muli v335 c512_i32_312
  let v367 : Index := Scalar.indexCast v366
  ![0, v367.toNat]
def k0_off8 (d0 : Dev nD) (c1_i32_391 : BitVec 32) : Fin 2 → Nat :=
  let c0_i32_400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v435 : BitVec 32 := Scalar.subi v2 c1_i32_391
  let c8_i32_392 : BitVec 32 := 8#32
  let v436 : BitVec 32 := Scalar.addi v435 c8_i32_392
  let c8_i32_393 : BitVec 32 := 8#32
  let v437 : BitVec 32 := Scalar.remsi v436 c8_i32_393
  let c512_i32_395 : BitVec 32 := 512#32
  let v439 : BitVec 32 := Scalar.muli v437 c512_i32_395
  ![0, v439.toNat]
def k0_off9 (d0 : Dev nD) (c1_i32_391 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v435 : BitVec 32 := Scalar.subi v2 c1_i32_391
  let c8_i32_392 : BitVec 32 := 8#32
  let v436 : BitVec 32 := Scalar.addi v435 c8_i32_392
  let c8_i32_393 : BitVec 32 := 8#32
  let v437 : BitVec 32 := Scalar.remsi v436 c8_i32_393
  let c512_i32_394 : BitVec 32 := 512#32
  let v438 : BitVec 32 := Scalar.muli v437 c512_i32_394
  let c0_i32_401 : BitVec 32 := 0#32
  ![v438.toNat, 0]
def k0_dev16 (d0 : Dev nD) : Nat :=
  let c0_i32_1223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1218 : BitVec 32 := 1#32
  let v1232 : BitVec 32 := Scalar.addi v2 c1_i32_1218
  let c8_i32_1219 : BitVec 32 := 8#32
  let v1233 : BitVec 32 := Scalar.remsi v1232 c8_i32_1219
  let c1_i32_1222 : BitVec 32 := 1#32
  let v1234 : BitVec 32 := Scalar.muli v1233 c1_i32_1222
  let v1235 : BitVec 32 := Scalar.addi c0_i32_1223 v1234
  v1235.toNat
def k0_dev17 (d0 : Dev nD) : Nat :=
  let c0_i32_1233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1228 : BitVec 32 := 2#32
  let v1242 : BitVec 32 := Scalar.addi v2 c2_i32_1228
  let c8_i32_1229 : BitVec 32 := 8#32
  let v1243 : BitVec 32 := Scalar.remsi v1242 c8_i32_1229
  let c1_i32_1232 : BitVec 32 := 1#32
  let v1244 : BitVec 32 := Scalar.muli v1243 c1_i32_1232
  let v1245 : BitVec 32 := Scalar.addi c0_i32_1233 v1244
  v1245.toNat
def k0_dev18 (d0 : Dev nD) : Nat :=
  let c0_i32_1243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1238 : BitVec 32 := 3#32
  let v1252 : BitVec 32 := Scalar.addi v2 c3_i32_1238
  let c8_i32_1239 : BitVec 32 := 8#32
  let v1253 : BitVec 32 := Scalar.remsi v1252 c8_i32_1239
  let c1_i32_1242 : BitVec 32 := 1#32
  let v1254 : BitVec 32 := Scalar.muli v1253 c1_i32_1242
  let v1255 : BitVec 32 := Scalar.addi c0_i32_1243 v1254
  v1255.toNat
def k0_dev19 (d0 : Dev nD) : Nat :=
  let c0_i32_1253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1248 : BitVec 32 := 4#32
  let v1262 : BitVec 32 := Scalar.addi v2 c4_i32_1248
  let c8_i32_1249 : BitVec 32 := 8#32
  let v1263 : BitVec 32 := Scalar.remsi v1262 c8_i32_1249
  let c1_i32_1252 : BitVec 32 := 1#32
  let v1264 : BitVec 32 := Scalar.muli v1263 c1_i32_1252
  let v1265 : BitVec 32 := Scalar.addi c0_i32_1253 v1264
  v1265.toNat
def k0_dev20 (d0 : Dev nD) : Nat :=
  let c0_i32_1263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1258 : BitVec 32 := 5#32
  let v1272 : BitVec 32 := Scalar.addi v2 c5_i32_1258
  let c8_i32_1259 : BitVec 32 := 8#32
  let v1273 : BitVec 32 := Scalar.remsi v1272 c8_i32_1259
  let c1_i32_1262 : BitVec 32 := 1#32
  let v1274 : BitVec 32 := Scalar.muli v1273 c1_i32_1262
  let v1275 : BitVec 32 := Scalar.addi c0_i32_1263 v1274
  v1275.toNat
def k0_dev21 (d0 : Dev nD) : Nat :=
  let c0_i32_1273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1268 : BitVec 32 := 6#32
  let v1282 : BitVec 32 := Scalar.addi v2 c6_i32_1268
  let c8_i32_1269 : BitVec 32 := 8#32
  let v1283 : BitVec 32 := Scalar.remsi v1282 c8_i32_1269
  let c1_i32_1272 : BitVec 32 := 1#32
  let v1284 : BitVec 32 := Scalar.muli v1283 c1_i32_1272
  let v1285 : BitVec 32 := Scalar.addi c0_i32_1273 v1284
  v1285.toNat
def k0_dev22 (d0 : Dev nD) : Nat :=
  let c0_i32_1283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1278 : BitVec 32 := 7#32
  let v1292 : BitVec 32 := Scalar.addi v2 c7_i32_1278
  let c8_i32_1279 : BitVec 32 := 8#32
  let v1293 : BitVec 32 := Scalar.remsi v1292 c8_i32_1279
  let c1_i32_1282 : BitVec 32 := 1#32
  let v1294 : BitVec 32 := Scalar.muli v1293 c1_i32_1282
  let v1295 : BitVec 32 := Scalar.addi c0_i32_1283 v1294
  v1295.toNat
abbrev stage0_0 : Fin 1 → Memref sig .tc .vmem S512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .local _ .vmem, ⟨0, _⟩ => ⟨S4096x4096, .f32⟩
  | .local _ .vmem, ⟨1, _⟩ => ⟨S4096x8192, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Base.lean ====
/-
# The vocabulary of the run

The resource algebra, the ring of eight devices, the buffers and semaphores under short names, and the
pieces of the buffers that change hands.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, the exchange's (duties named by a device), local transfers' -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := Emb.trans (Emb.inl : Emb UB (UB × Counters)) embR

/-! ## The ring -/

set_option backward.proofsInPublic true in
/-- The device `k` places after `c`; -/
def up (c k : Fin 8) : Dev nD := ⟨(c.val + k.val) % 8, Nat.mod_lt _ (by decide)⟩
set_option backward.proofsInPublic true in
/-- the device `k` places before `c`. -/
def dn (c k : Fin 8) : Dev nD := ⟨(c.val + (8 - k.val)) % 8, Nat.mod_lt _ (by decide)⟩

theorem dn_up (c k : Fin 8) : dn (up c k) k = c := by revert c k; decide
theorem up_dn (c k : Fin 8) : up (dn c k) k = c := by revert c k; decide
theorem up_inj (c a b : Fin 8) : up c a = up c b → a = b := by revert c a b; decide
theorem up_dn_self (c k : Fin 8) : up c (dn k c) = k := by revert c k; decide

/-! ## Buffers and semaphores -/

abbrev xA : Memref sig .tc .hbm S4096x512 .f32 := Memref.whole main_arg0
abbrev wA : Memref sig .tc .hbm S4096x8192 .f32 := Memref.whole main_arg1
abbrev oM : Memref sig .tc .vmem S512x8192 .f32 := Memref.whole cc0_stg0_0
abbrev xrM : Memref sig .tc .vmem S512x4096 .bf16 := Memref.whole cc0_scratch0
abbrev wbM : Memref sig .tc .vmem S2x512x8192 .f32 := Memref.whole cc0_scratch1
abbrev xbM : Memref sig .tc .vmem S4096x512 .bf16 := Memref.whole cc0_scratch2
abbrev sgM : Memref sig .tc .vmem S2x512x512 .f32 := Memref.whole cc0_scratch3
abbrev gaM : Memref sig .tc .vmem S8x128 .f32 := Memref.whole cc0_scratch4
abbrev acM : Memref sig .tc .smem S1 .f32 := Memref.whole cc0_scratch5

abbrev barS : Sem sig := (SemArray.scalar (sig.barrier 0 rfl) : Sems sig S_).sem

/-- The DMA semaphore numbered `k`. -/
abbrev dS (k : ℕ) (h : k < 43 := by decide) : SemLoc sig := .dma ⟨k, h⟩

abbrev barCell (c : Dev nD) : GSem nD τ sig := ((c : Thread nD τ), .reg barS)
abbrev dCell (c : Dev nD) (k : ℕ) (h : k < 43 := by decide) : GSem nD τ sig := ((c : Thread nD τ), dS k h)

/-! ## The pieces -/

/-- The column block of `x_rows` that device `j`'s rows of `x` come to; -/
abbrev xrBlk (j : Dev nD) : Memref sig .tc .vmem S512x512 .bf16 :=
  xrM.slice (Rect.unit (s := S512x4096) (k0_off5 j) S512x512.size (k0_off5_inb j)) (fun _ => rfl)
/-- the row block of `x_bf16` sent to the device `k` places after `c`; -/
abbrev xbBlk (c : Dev nD) (k : Fin 8) : Memref sig .tc .vmem S512x512 .bf16 :=
  xbM.slice (Rect.unit (s := S4096x512) (k0_off3 c (BitVec.ofNat 32 k.val)) S512x512.size (k0_off3_inb c k)) (fun _ => rfl)

end Cert.KernelIdeal.Run

end
-- ==== Proof.Values.lean ====
/-
# What every buffer holds

The contents the run leaves in each buffer, as closed functions of the two arrays at launch: the rows of
`x` narrowed and exchanged, the products accumulated block by block, the local and the global maximum, the
result.
-/
module

public import proofs.«01_k».proof.Proof.Base

@[expose] public section

noncomputable section

namespace Cert.KernelIdeal.Run

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ)

/-- The index of a matrix at row `a`, column `b`. -/
def ix2 {n₀ n₁ : ℕ} (a b : ℕ) (ha : a < n₀) (hb : b < n₁) : (⟨2, ![n₀, n₁]⟩ : Shape).Idx
  | ⟨0, _⟩ => ⟨a, ha⟩
  | ⟨1, _⟩ => ⟨b, hb⟩

/-- Device `c`'s columns of `x`, -/
abbrev xIn (c : Dev nD) : FVec F S4096x512 .f32 := m ((c : Thread nD τ).loc main_arg0)
/-- and its copy of `w`, at launch. -/
abbrev wIn (c : Dev nD) : FVec F S4096x8192 .f32 := m ((c : Thread nD τ).loc main_arg1)

/-- Device `c`'s columns of `x`, narrowed. -/
def xbV (c : Dev nD) : FVec F S4096x512 .bf16 := truncf .bf16 (xIn m c) bitsLt_bf16_f32

/-- Row `i` of device `c`'s share of rows, column `k` of device `s`'s share of columns. -/
def rowIx (c : Dev nD) (i : S512x512.Idx) : S4096x512.Idx :=
  ix2 (512 * c.val + (i 0).val) (i 1).val
    (by have h₁ : c.val < 8 := c.isLt; have h₂ : (i 0).val < 512 := (i 0).isLt; omega) (i 1).isLt

/-- The block of narrowed `x` that device `s` holds of device `c`'s rows. -/
def xBlkV (s c : Dev nD) : FVec F S512x512 .bf16 := fun i => xbV m s (rowIx c i)

def colDev (i : S512x4096.Idx) : Dev nD :=
  ⟨(i 1).val / 512, by have h : (i 1).val < 4096 := (i 1).isLt; show _ < 8; omega⟩
def colIx (i : S512x4096.Idx) : S512x512.Idx := ix2 (i 0).val ((i 1).val % 512) (i 0).isLt (Nat.mod_lt _ (by decide))

/-- Device `c`'s rows of the whole narrowed `x`: the block each device sent, side by side. -/
def xrV (c : Dev nD) : FVec F S512x4096 .bf16 := fun i => xBlkV m (colDev i) c (colIx i)

def wIx (s : Dev nD) (j : Fin 8) (i : S512x1024.Idx) : S4096x8192.Idx :=
  ix2 (512 * s.val + (i 0).val) (1024 * j.val + (i 1).val)
    (by have h₁ : s.val < 8 := s.isLt; have h₂ : (i 0).val < 512 := (i 0).isLt; omega)
    (by have h₁ : j.val < 8 := j.isLt; have h₂ : (i 1).val < 1024 := (i 1).isLt; omega)

/-- The `j`-th column chunk of the rows of `w` that device `s`'s columns of `x` meet. -/
def wBlkV (c s : Dev nD) (j : Fin 8) : FVec F S512x1024 .f32 := fun i => wIn m c (wIx s j i)

/-- One block product. -/
def mm (X : FVec F S512x512 .bf16) (W : FVec F S512x1024 .f32) : FVec F S512x1024 .f32 :=
  matmul dot_S512x512_S512x1024_S512x1024_1_0_0_1_n_n none (extf .f32 X bitsLt_bf16_f32) W (constant S512x1024 .f32 0x00000000#32)

/-- Chunk `j` of the product on device `c` after `d + 1` of the eight blocks. -/
def accV (c : Dev nD) (j : Fin 8) : ℕ → FVec F S512x1024 .f32
  | 0 => mm (xBlkV m (dn c 0) c) (wBlkV m c (dn c 0) j)
  | d + 1 => addf (accV c j d) (mm (xBlkV m (dn c (Fin.ofNat 8 (d + 1))) c) (wBlkV m c (dn c (Fin.ofNat 8 (d + 1))) j))

/-- Chunk `j` of the product, negative entries replaced by zero. -/
def finV (c : Dev nD) (j : Fin 8) : FVec F S512x1024 .f32 :=
  maximumf (accV m c j 7) (broadcast S512x1024 (Scalar.ofBits .f32 0x00000000#32))

/-- The largest entry of a chunk. -/
def cmax (V : FVec F S512x1024 .f32) : F .f32 :=
  extractAt ![0, 0, 0] (shapeCast S1x1x1 (multiReduction .maximumf [1, 2] S1 (shapeCast S1x512x1024 V shapeCasts_S512x1024_S1x512x1024)
    0xFF800000#32 reduces_S1x512x1024_S1 (.inl rfl) rfl) shapeCasts_S1_S1x1x1) inpos_S1x1x1_p0_0_0

/-- The largest entry on device `c` among the first `n` chunks, at least zero. -/
def mrun (c : Dev nD) : ℕ → F .f32
  | 0 => Scalar.ofBits .f32 0x00000000#32
  | n + 1 => Scalar.maximumf (mrun c n) (cmax (finV m c (Fin.ofNat 8 n)))

def mloc (c : Dev nD) : F .f32 := mrun m c 8

/-- The gathered maxima: row `d` of device `c` the one of the device `d` before it. -/
def gaV (c : Dev nD) : FVec F S8x128 .f32 := fun i => mloc m (dn c ⟨(i 0).val, (i 0).isLt⟩)

/-- The global maximum as device `c` computes it. -/
def gmax (c : Dev nD) : F .f32 :=
  Scalar.maximumf (extractAt ![0, 0, 0] (shapeCast S1x1x1 (multiReduction .maximumf [1, 2] S1 (shapeCast S1x8x128 (gaV m c) shapeCasts_S8x128_S1x8x128)
    0xFF800000#32 reduces_S1x8x128_S1 (.inl rfl) rfl) shapeCasts_S1_S1x1x1) inpos_S1x1x1_p0_0_0) (Scalar.ofBits .f32 0x0DA24260#32)

/-- What the last step does to one block of the product. -/
def qdq (g : F .f32) (Y : FVec F S512x2048 .f32) : FVec F S512x2048 .f32 :=
  mulf (extf .f32 (truncf .fp8e4m3 (mulf Y (broadcast S512x2048 (Scalar.divf (Scalar.ofBits .f32 0x43E00000#32) g))) bitsLt_fp8e4m3_f32) bitsLt_fp8e4m3_f32)
    (broadcast S512x2048 (Scalar.divf g (Scalar.ofBits .f32 0x43E00000#32)))

def chunkOf (i : S512x8192.Idx) : Fin 8 := ⟨(i 1).val / 1024, by have h : (i 1).val < 8192 := (i 1).isLt; omega⟩
def chunkIx (i : S512x8192.Idx) : S512x1024.Idx := ix2 (i 0).val ((i 1).val % 1024) (i 0).isLt (Nat.mod_lt _ (by decide))

/-- The product on device `c` after `d + 1` blocks, whole; -/
def accW (c : Dev nD) (d : ℕ) : FVec F S512x8192 .f32 := fun i => accV m c (chunkOf i) d (chunkIx i)
/-- with the negative entries replaced by zero. -/
def finW (c : Dev nD) : FVec F S512x8192 .f32 := fun i => finV m c (chunkOf i) (chunkIx i)

def colBlkIx (i : S512x8192.Idx) : S512x2048.Idx := ix2 (i 0).val ((i 1).val % 2048) (i 0).isLt (Nat.mod_lt _ (by decide))
def blkIx (b : Fin 4) (i : S512x2048.Idx) : S512x8192.Idx :=
  ix2 (i 0).val (2048 * b.val + (i 1).val) (i 0).isLt
    (by have h₁ : b.val < 4 := b.isLt; have h₂ : (i 1).val < 2048 := (i 1).isLt; omega)
def colBlk (i : S512x8192.Idx) : Fin 4 := ⟨(i 1).val / 2048, by have h : (i 1).val < 8192 := (i 1).isLt; omega⟩

/-- The result on device `c`. -/
def outV (c : Dev nD) : FVec F S512x8192 .f32 := fun i => qdq (gmax m c) (fun k => finW m c (blkIx (colBlk i) k)) (colBlkIx i)

end Cert.KernelIdeal.Run

end
-- ==== Proof.Schedule.lean ====
/-
# The exchange's protocol

Who pays which semaphore what, and what a payment hands over. Every semaphore has one round. The entry
barrier of a device is paid one unit by each of the seven others, which hands the payer's landing places to
the device. A transfer pays its sender's semaphore with the source back, and its receiver's with the landed
block. The four families of transfer semaphores are numbered: 0 and 1 the sends and receives of the rows of
`x`, 2 and 3 those of the maxima; in each family, `k` is the transfer going `k + 1` places up the ring.
-/
module

public import proofs.«01_k».proof.Proof.Values

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells -/

/-- Transfer `k` of family `t` completes on this semaphore. -/
abbrev xSem (t : Fin 4) (k : Fin 7) : DmaSem sig :=
  ⟨2 + 8 * t.val + k.val, by have h₁ := t.isLt; have h₂ := k.isLt; show _ < 43; omega⟩
abbrev xCell (c : Dev nD) (t : Fin 4) (k : Fin 7) : GSem nD τ sig := ((c : Thread nD τ), .dma (xSem t k))

/-- The family and number of a transfer semaphore. -/
def famOf (n : ℕ) : Fin 4 := Fin.ofNat 4 ((n - 2) / 8)
def numOf (n : ℕ) : Fin 7 := Fin.ofNat 7 ((n - 2) % 8)
def IsX (n : ℕ) : Prop := 2 ≤ n ∧ n < 33 ∧ (n - 2) % 8 < 7
instance (n : ℕ) : Decidable (IsX n) := by unfold IsX; infer_instance

theorem isX_xSem (t : Fin 4) (k : Fin 7) : IsX (xSem t k).val := by revert t k; decide
theorem famOf_xSem (t : Fin 4) (k : Fin 7) : famOf (xSem t k).val = t := by revert t k; decide
theorem numOf_xSem (t : Fin 4) (k : Fin 7) : numOf (xSem t k).val = k := by revert t k; decide

/-- The place `k + 1`. -/
abbrev s1 (k : Fin 7) : Fin 8 := k.succ

/-! ## The pieces that change hands -/

theorem gaRow_inb (k : Fin 8) : ∀ a, (![k.val, 0] : Fin 2 → ℕ) a + S1x128.size a ≤ S8x128.size a := by revert k; decide
/-- Row `k` of the gathered maxima. -/
abbrev gaRow (k : Fin 8) : Memref sig .tc .vmem S1x128 .f32 :=
  gaM.slice (Rect.unit (s := S8x128) ![k.val, 0] S1x128.size (gaRow_inb k)) (fun _ => rfl)

/-- Column block `j` of device `c`'s `x_rows`, held at contents `f`; -/
def xrPt (c j : Dev nD) (f : Buf (Elt F) (xrM.view.loc (c : Thread nD τ))) : sProp 𝕄 :=
  (xrBlk j).view.loc (c : Thread nD τ) ↦[(xrBlk j).view.set]{fullShare} f
/-- the row block of `x_bf16` that device `c` sends `k` places up; -/
def xbPt (c : Dev nD) (k : Fin 8) (f : Buf (Elt F) (xbM.view.loc (c : Thread nD τ))) : sProp 𝕄 :=
  (xbBlk c k).view.loc (c : Thread nD τ) ↦[(xbBlk c k).view.set]{fullShare} f
/-- row `k` of device `c`'s gathered maxima, at share `q`. -/
def gaPt (c : Dev nD) (k : Fin 8) (q : PosShare TreeShare) (f : Buf (Elt F) (gaM.view.loc (c : Thread nD τ))) : sProp 𝕄 :=
  (gaRow k).view.loc (c : Thread nD τ) ↦[(gaRow k).view.set]{q} f

instance xrPt_storable (c j : Dev nD) (f) : BI.Storable (upEmb : UEmb _ 𝕄) (xrPt (F := F) c j f) := by unfold xrPt; infer_instance
instance xbPt_storable (c : Dev nD) (k) (f) : BI.Storable (upEmb : UEmb _ 𝕄) (xbPt (F := F) c k f) := by unfold xbPt; infer_instance
instance gaPt_storable (c : Dev nD) (k q) (f) : BI.Storable (upEmb : UEmb _ 𝕄) (gaPt (F := F) c k q f) := by unfold gaPt; infer_instance

/-- What device `p`'s unit on device `c`'s barrier hands `c`: the places on `p` that `c` will write. -/
def barPay (c p : Dev nD) : sProp 𝕄 := iprop((∃ f, xrPt p c f) ∗ (∃ f, gaPt p (dn p c) fullShare f))

/-- What the completion of transfer `k` of family `t` hands device `c`. -/
def xPay (c : Dev nD) : Fin 4 → Fin 7 → sProp 𝕄
  | 0, k => xbPt c (s1 k) (xbV m c)
  | 1, k => xrPt c (dn c (s1 k)) (xrV m c)
  | 2, k => gaPt c 0 (Transfers.shareTokN fullShare k.val) (gaV m c)
  | 3, k => gaPt c (s1 k) fullShare (gaV m c)

instance barPay_storable (c p : Dev nD) : BI.Storable (upEmb : UEmb _ 𝕄) (barPay (F := F) c p) := by unfold barPay; infer_instance
instance xPay_storable (c : Dev nD) (t k) : BI.Storable (upEmb : UEmb _ 𝕄) (xPay m c t k) := by
  unfold xPay; split <;> infer_instance

/-! ## The schedule -/

/-- The credit of one block of `x`, of one row of maxima. -/
abbrev NX : ℕ := (xrBlk 0).view.dmaCredit
abbrev NA : ℕ := (gaRow 0).view.dmaCredit
theorem NX_pos : 0 < NX := View.dmaCredit_pos _ (by decide)
theorem NA_pos : 0 < NA := View.dmaCredit_pos _ (by decide)

/-- The units of a transfer of family `t`. -/
def amt (t : Fin 4) : ℕ := if t.val < 2 then NX else NA
theorem amt_pos (t : Fin 4) : 0 < amt t := by unfold amt; split; exact NX_pos; exact NA_pos

def Rd : Rounds.Schedule (GSem nD τ sig) (Fin 8) 𝕄 where
  duties g r := if r = 0 ∧ g.1.2 = .tc then
      (match g.2 with
        | .reg _ => Finset.univ.erase g.1.1
        | .dma s => if IsX s.val then {0} else ∅) else ∅
  unitless _ := False
  amount g _ _ := match g.2 with
    | .reg _ => 1
    | .dma s => amt (famOf s.val)
  payload g _ d := match g.2 with
    | .reg _ => barPay g.1.1 d
    | .dma s => xPay m g.1.1 (famOf s.val) (numOf s.val)
  amount_pos g _ _ _ := by
    rcases g with ⟨g, s | s⟩
    · exact Nat.one_pos
    · exact amt_pos _

instance Rd_payload_storable (g : GSem nD τ sig) (r : ℕ) (d : Fin 8) :
    BI.Storable (upEmb : UEmb _ 𝕄) ((Rd (F := F) m).payload g r d) := by
  rcases g with ⟨g, s | s⟩
  · exact barPay_storable _ _
  · exact xPay_storable m _ _ _

theorem duties_bar (c : Dev nD) : (Rd m).duties (barCell c) 0 = Finset.univ.erase c := by
  dsimp only [Rd]; exact if_pos ⟨rfl, rfl⟩
theorem duties_x (c : Dev nD) (t k) : (Rd m).duties (xCell c t k) 0 = {0} := by
  dsimp only [Rd]; rw [if_pos ⟨rfl, rfl⟩]; exact if_pos (isX_xSem t k)
theorem duties_later (g : GSem nD τ sig) : ∀ r, 1 ≤ r → (Rd m).duties g r = ∅ := fun r hr => by
  dsimp only [Rd]; exact if_neg fun h => by omega

theorem amount_bar (c : Dev nD) (d) : (Rd m).amount (barCell c) 0 d = 1 := rfl
theorem amount_x (c : Dev nD) (t k d) : (Rd m).amount (xCell c t k) 0 d = amt t := congrArg amt (famOf_xSem t k)

theorem payload_bar (c : Dev nD) (d) : (Rd m).payload (barCell c) 0 d = barPay c d := rfl
theorem payload_x (c : Dev nD) (t k d) : (Rd m).payload (xCell c t k) 0 d = xPay m c t k := by
  show xPay m c (famOf (xSem t k).val) (numOf (xSem t k).val) = _
  rw [famOf_xSem, numOf_xSem]

theorem expect_bar (c : Dev nD) : (Rd m).expect (barCell c) 0 = 7 := by
  unfold Schedule.expect Schedule.amountOf
  rw [duties_bar, Finset.sum_congr rfl fun d _ => amount_bar m c d, Finset.sum_const, smul_eq_mul, mul_one]
  revert c; decide
theorem expect_x (c : Dev nD) (t k) : (Rd m).expect (xCell c t k) 0 = amt t := by
  unfold Schedule.expect Schedule.amountOf; rw [duties_x, Finset.sum_singleton, amount_x]

/-- The whole of the barrier's round: the seven other devices' payloads, in the order of their distance. -/
theorem rest_bar (c : Dev nD) : bigSep ((Rd m).duties (barCell c) 0 \ ∅) (fun d => (Rd m).payload (barCell c) 0 d)
    = bigSep Finset.univ (fun k : Fin 7 => barPay c (up c (s1 k))) := by
  have h : ((Rd m).duties (barCell c) 0 \ ∅) = Finset.univ.image (fun k : Fin 7 => up c (s1 k)) := by
    rw [Finset.sdiff_empty, duties_bar]; revert c; decide
  rw [h, bigSep_image_of_injOn (fun a _ b _ hab => Fin.succ_injective 7 (up_inj c _ _ hab))]
  rfl
theorem rest_x (c : Dev nD) (t k) : bigSep ((Rd m).duties (xCell c t k) 0 \ ∅) (fun d => (Rd m).payload (xCell c t k) 0 d) = xPay m c t k := by
  rw [Finset.sdiff_empty, duties_x, bigSep_singleton, payload_x]

end Cert.KernelIdeal.Run

end
-- ==== Proof.Owes.lean ====
/-
# What each device owes, and the order of the waits

A device starts owing the seven transfers of maxima, the seven transfers of rows and the seven units on the
others' barriers, written so that each step of the program pays the last summand. The semaphores are ranked:
local and send completions lowest, then the barrier, then the receives of rows, then those of maxima; a device
waits only below everything it still owes.
-/
module

public import proofs.«01_k».proof.Proof.Schedule

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The receive cell that device `c`'s transfer `k` of family `t` pays (`t` is 1 or 3). -/
abbrev toCell (c : Dev nD) (t : Fin 4) (k : Fin 7) : GSem nD τ sig := xCell (up c (s1 k)) t k

/-- The last `j` of device `c`'s seven transfers of maxima; -/
def oweA (c : Dev nD) : ℕ → CellTallies nD τ sig Unit
  | 0 => 0
  | j + 1 => oweA c j + tallyAt (toCell c 3 (Fin.ofNat 7 (6 - j))) () NA
/-- those and the last `j` of its seven transfers of rows; -/
def oweX (c : Dev nD) : ℕ → CellTallies nD τ sig Unit
  | 0 => oweA c 7
  | j + 1 => oweX c j + tallyAt (toCell c 1 (Fin.ofNat 7 (6 - j))) () NX
/-- those and the units on the barriers of the last `j` of the eight devices (none on its own). -/
def oweB (c : Dev nD) : ℕ → CellTallies nD τ sig Unit
  | 0 => oweX c 7
  | j + 1 => oweB c j + tallyAt (barCell (Fin.ofNat 8 (7 - j) : Fin 8)) () (if (Fin.ofNat 8 (7 - j) : Fin 8) = c then 0 else 1)

def O₀ (c : Dev nD) : CellTallies nD τ sig Unit := oweB c 8

def L (g : GSem nD τ sig) : Finset Unit := if g.1.2 = .tc then {()} else ∅
/-- The rank of a semaphore. -/
def lv (g : GSem nD τ sig) (_ : Unit) : ℕ := match g.2 with
  | .reg _ => 1
  | .dma s => if IsX s.val then (if famOf s.val = 1 then 2 else if famOf s.val = 3 then 3 else 0) else 0

theorem L_of_ne (g : GSem nD τ sig) (h : g.1.2 ≠ .tc) : L g = ∅ := if_neg h
theorem L_tc (c : Dev nD) (sm : SemLoc sig) : L ((c : Thread nD τ), sm) = {()} := if_pos rfl

/-- Everything owed in `O` is owed on a cell of a TensorCore ranked above `b`. -/
def Above (b : ℕ) (O : CellTallies nD τ sig Unit) : Prop := ∀ g u, 0 < O g u → g.1.2 = .tc ∧ b < lv g u

theorem above_zero (b : ℕ) : Above b 0 := fun g u h => absurd h (Nat.lt_irrefl 0)
theorem above_add {b : ℕ} {O O' : CellTallies nD τ sig Unit} (h : Above b O) (h' : Above b O') : Above b (O + O') := fun g u hg => by
  rw [Pi.add_apply, Finsupp.add_apply] at hg
  rcases Nat.eq_zero_or_pos (O g u) with h0 | h0
  · exact h' g u (by omega)
  · exact h g u h0
theorem above_tally {b : ℕ} {g : GSem nD τ sig} {n : ℕ} (ht : g.1.2 = .tc) (h : b < lv g ()) : Above b (tallyAt g () n) := fun g' u hg => by
  rw [tallyAt_apply] at hg
  by_cases h' : g' = g ∧ u = ()
  · rw [h'.1]; exact ⟨ht, h⟩
  · rw [if_neg h'] at hg; exact absurd hg (Nat.lt_irrefl 0)
theorem Above.mono {b b' : ℕ} {O : CellTallies nD τ sig Unit} (hb : b ≤ b') (h : Above b' O) : Above b O := fun g u hg =>
  ⟨(h g u hg).1, lt_of_le_of_lt hb (h g u hg).2⟩

theorem lv_x (c : Dev nD) (t : Fin 4) (k : Fin 7) : lv (xCell c t k) () = if t = 1 then 2 else if t = 3 then 3 else 0 := by
  show (if IsX (xSem t k).val then (if famOf (xSem t k).val = 1 then 2 else if famOf (xSem t k).val = 3 then 3 else 0) else 0) = _
  rw [if_pos (isX_xSem t k), famOf_xSem]

theorem above_oweA (c : Dev nD) : ∀ j, Above 2 (oweA c j)
  | 0 => above_zero 2
  | j + 1 => above_add (above_oweA c j) (above_tally rfl (by rw [lv_x]; decide))
theorem above_oweX (c : Dev nD) : ∀ j, Above 1 (oweX c j)
  | 0 => (above_oweA c 7).mono (by decide)
  | j + 1 => above_add (above_oweX c j) (above_tally rfl (by rw [lv_x]; decide))
theorem above_oweB (c : Dev nD) : ∀ j, Above 0 (oweB c j)
  | 0 => (above_oweX c 7).mono (by decide)
  | j + 1 => above_add (above_oweB c j) (above_tally rfl (by show 0 < 1; decide))

/-- A wait at a rank at most `b` is below everything owed, when all of it is ranked above `b`. -/
theorem mayWait (c : Dev nD) (sm : SemLoc sig) (b : ℕ) (O : CellTallies nD τ sig Unit) (hs : lv ((c : Thread nD τ), sm) () ≤ b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- The bundle of that evidence for the semaphores of the device's own local transfers, that is all of rank 0, -/
theorem mayWait0 (c : Dev nD) (s : DmaSem sig) (O : CellTallies nD τ sig Unit) (hs : ¬ IsX s.val) (hO : Above 0 O) :
    (levAts L lv : sProp 𝕄) ⊢ MayWait (c : Thread nD τ) (.dma s) () O :=
  mayWait c (.dma s) 0 O (by show (if IsX s.val then _ else 0) ≤ 0; rw [if_neg hs]) hO

end Cert.KernelIdeal.Run

end
-- ==== Proof.Steps.lean ====
/-
# The steps that cross devices

One rule for each kind of statement that touches another device: the guarded unit on a device's entry barrier,
the wait on the own barrier, the transfer of a block of rows, the transfer of a maximum, and the wait for a
transfer's completion. Each is stated over what every device knows of all semaphores, and over the piece of the
protocol the statement uses up.
-/
module

public import proofs.«01_k».proof.Proof.Owes

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## What every device knows -/

/-- The protocol's semaphores: a device's barrier and its 28 transfer semaphores. -/
abbrev CellIx : Type := Option (Fin 4 × Fin 7)
def kcell (q : Dev nD × CellIx) : GSem nD τ sig := match q.2 with
  | none => barCell q.1
  | some (t, k) => xCell q.1 t k

/-- Every protocol semaphore runs the schedule, and is at its round 0. -/
def records (K : Dev nD × CellIx → ℕ) : sProp 𝕄 :=
  iprop(bigSep Finset.univ (fun q => cellInv ER (Rd m) (K q) (kcell q)) ∗ bigSep Finset.univ (fun q => reached ER (kcell q) 0))

instance records_persistent (K) : BI.Persistent (records m K) := by unfold records; infer_instance

theorem inv_at (K : Dev nD × CellIx → ℕ) (q : Dev nD × CellIx) : records m K ⊢ cellInv ER (Rd m) (K q) (kcell q) := by
  unfold records
  exact sep_elim_left.trans (bigSep_elim (Finset.mem_univ q))
theorem reached_at (K : Dev nD × CellIx → ℕ) (q : Dev nD × CellIx) : records m K ⊢ reached ER (kcell q) 0 := by
  unfold records
  exact sep_elim_right.trans (bigSep_elim (Finset.mem_univ q))

/-! ## The pieces of the protocol a device holds -/

/-- For the unit on device `p`'s barrier (`p` another device): the right to pay it, and what it hands over. -/
def sigTok (c p : Dev nD) : sProp 𝕄 := if p = c then iprop(emp) else iprop(dutyTok ER (barCell p) 0 c ∗ barPay p c)
/-- For a transfer of family `t` (the sending side): the rights to pay both semaphores, and the sender's wait. -/
def sendTok (c : Dev nD) (t u : Fin 4) (k : Fin 7) : sProp 𝕄 :=
  iprop(dutyTok ER (xCell c t k) 0 0 ∗ dutyTok ER (toCell c u k) 0 0 ∗ atPos ER (xCell c t k) 0 ∅ 0)
/-- For the wait on a transfer semaphore. -/
def waitTok (c : Dev nD) (t : Fin 4) (k : Fin 7) : sProp 𝕄 :=
  iprop(cred (tallyAt (xCell c t k) () (amt t)) ∗ atPos ER (xCell c t k) 0 ∅ 0)

section Steps

variable (K : Dev nD × CellIx → ℕ)

/-- The unit on device `p`'s barrier. -/
theorem wp_unit (c p : Dev nD) (hp : p ≠ c) {α : Type} {Q : α → sProp 𝕄} {k : PUnit → Prog (TpuEff nD τ sig (Elt F) Λ₀ .tc) α}
    (O : CellTallies nD τ sig Unit) (W : Waits sig Unit) :
    (records m K) ⊢ sigTok c p -∗ owes (c : Thread nD τ) (O + tallyAt (barCell p) () (if p = c then 0 else 1)) W
      -∗ (owes (c : Thread nD τ) O W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (p : Thread nD τ) barS 1 ) k) Q := by
  unfold sigTok
  rw [if_neg hp, if_neg hp]
  iintro #HR ⟨Ht, Hp⟩ HO Hk
  iapply (Rounds.wp_signal 𝒱₀ ER (Rd m) (c : Thread nD τ) none (dst := (p : Thread nD τ)) (κ := K (p, none))
    (d := c) (by rw [duties_bar]; exact Finset.mem_erase.mpr ⟨hp.symm, Finset.mem_univ _⟩) (amount_bar m p c) () O rfl) $$ [Ht Hp HO]
  · isplitr; · iapply (inv_at m K (p, none)); iexact HR
    isplitl [HO]; · iexact HO
    isplitl [Ht]; · iexact Ht
    isplitl [Hp]; · rw [payload_bar]; iexact Hp
    iapply (reached_at m K (p, none)); iexact HR
  iexact Hk

/-- The wait for all seven units on the own barrier. -/
theorem wp_bar (c : Dev nD) {α : Type} {Q : α → sProp 𝕄} {k : PUnit → Prog (TpuEff nD τ sig (Elt F) Λ₀ .tc) α}
    (O : CellTallies nD τ sig Unit) (hO : Above 1 O) (W : Waits sig Unit) :
    (records m K) ⊢ levAts L lv -∗ cred (tallyAt (barCell c) () 7) -∗ atPos ER (barCell c) 0 ∅ 0 -∗ owes (c : Thread nD τ) O W
      -∗ (iprop(owes (c : Thread nD τ) O (insert (SemLoc.reg barS, ()) W) ∗ semVal (barCell c) 0 ∗ bigSep Finset.univ (fun k : Fin 7 => barPay c (up c (s1 k))))
          -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS 7) k) Q := by
  iintro #HR #HL Hc Hat HO Hk
  iapply (Rounds.wp_wait_rest_token 𝒱₀ ER (Rd m) (c : Thread nD τ) none (κ := K (c, none))
    (wpE_semWait_eq 𝒱₀ (c : Thread nD τ) none Set.univ) (Set.mem_univ _) () (O := O) (W := W) (R := 0) (m := 0) (T := ∅)
    (by rw [expect_bar])) $$ [Hc Hat HO]
  · isplitr; · iapply (inv_at m K (c, none)); iexact HR
    isplitl [Hc]; · iexact Hc
    isplitl [HO]; · iexact HO
    isplitr; · iapply (mayWait c (.reg barS) 1 O (le_refl _) hO); iexact HL
    iexact Hat
  iintro ⟨HO, Hat, -, Hpay⟩
  ihave Hpay := (Entails.of_eq (rest_bar m c)) $$ Hpay
  imod (Rounds.cell_close ER (Rd m) (Set.mem_univ (K (c, none))) (fun h => h) (R := 0 + 1) (duties_later m (barCell c))) $$ [Hat] with Hz
  · isplitr; · iapply (inv_at m K (c, none)); iexact HR
    iexact Hat
  iapply Hk
  isplitl [HO]; · iexact HO
  isplitl [Hz]; · iexact Hz
  iexact Hpay

/-- The wait for the completion of transfer `k` of family `t`, with the semaphore back at zero. -/
theorem wp_done (c : Dev nD) (t : Fin 4) (k : Fin 7) {sp sp' : Space} {s s' : Shape} {e e' : EltTy} {sem : DmaSem sig} (hsem : sem = xSem t k)
    {src : Memref sig .tc sp' s' e'} {dst : Memref sig .tc sp s e} {hsrc : src.view.WordExact} {hdst : dst.view.WordExact}
    (hN : dst.view.dmaCredit = amt t)
    {α : Type} {Q : α → sProp 𝕄} {k' : PUnit → Prog (TpuEff nD τ sig (Elt F) Λ₀ .tc) α}
    (O : CellTallies nD τ sig Unit) (hO : Above (lv (xCell c t k) ()) O) (W : Waits sig Unit) :
    (records m K) ⊢ levAts L lv -∗ waitTok c t k -∗ owes (c : Thread nD τ) O W
      -∗ (iprop(owes (c : Thread nD τ) O (insert (SemLoc.dma (xSem t k), ()) W) ∗ semVal (xCell c t k) 0 ∗ xPay m c t k)
          -∗ wp frame (wpE (defs₀ (F := F)) 𝒱₀ (c : Thread nD τ) none) Set.univ (k' ⟨⟩) Q)
      -∗ wp frame (wpE (defs₀ (F := F)) 𝒱₀ (c : Thread nD τ) none) Set.univ (.op (.waitDma2 sem src dst hsrc hdst) k') Q := by
  subst hsem
  unfold waitTok
  iintro #HR #HL ⟨Hc, Hat⟩ HO Hk
  iapply (Rounds.wp_wait_rest_token 𝒱₀ ER (Rd m) (c : Thread nD τ) none (κ := K (c, some (t, k)))
    (wpE_waitDma2_eq 𝒱₀ (c : Thread nD τ) none Set.univ) (Set.mem_univ _) () (O := O) (W := W) (R := 0) (m := 0) (T := ∅)
    (by rw [expect_x, hN, Nat.zero_add])) $$ [Hc Hat HO]
  · isplitr; · iapply (inv_at m K (c, some (t, k))); iexact HR
    isplitl [Hc]; · rw [hN]; iexact Hc
    isplitl [HO]; · iexact HO
    isplitr; · iapply (mayWait c (.dma (xSem t k)) _ O (le_refl _) hO); iexact HL
    iexact Hat
  iintro ⟨HO, Hat, -, Hpay⟩
  ihave Hpay := (Entails.of_eq (rest_x m c t k)) $$ Hpay
  imod (Rounds.cell_close ER (Rd m) (Set.mem_univ (K (c, some (t, k)))) (fun h => h) (R := 0 + 1) (duties_later m (xCell c t k))) $$ [Hat] with Hz
  · isplitr; · iapply (inv_at m K (c, some (t, k))); iexact HR
    iexact Hat
  iapply Hk
  isplitl [HO]; · iexact HO
  isplitl [Hz]; · iexact Hz
  iexact Hpay

/-- A view's elements after a whole write of what `g` holds there hold what `g` holds. -/
theorem write_eq_on {κ : Kind} {sp : Space} {s : Shape} {e : EltTy} (v : View sig κ sp s e) (f g : v.ty.Contents (Elt F)) (w : s.Idx → Elt F e)
    (h : ∀ j, cast (congrArg (Elt F) v.elt_eq.symm) (w j) = g (v.emb j)) : ∀ i ∈ v.set, v.write (Elt F) f w Finset.univ i = g i := by
  intro i hi
  obtain ⟨j, -, rfl⟩ := Finset.mem_map.mp hi
  rw [View.write_emb_of_mem _ _ (Finset.mem_univ j)]
  exact h j

/-- The block of narrowed rows a transfer lands is the receiver's own view of the exchanged array. -/
theorem land_x (c : Dev nD) (k : Fin 7) (fd : Buf (Elt F) (xrM.view.loc ((up c (s1 k) : Dev nD) : Thread nD τ))) :
    iprop((xrBlk c).view.loc ((up c (s1 k) : Dev nD) : Thread nD τ) ↦[(xrBlk c).view.set]{fullShare}
        (xrBlk c).view.write (Elt F) fd ((xbBlk c (s1 k)).view.read (Elt F) (xbV m c)) Finset.univ : sProp 𝕄)
      ⊢ xrPt (up c (s1 k)) (dn (up c (s1 k)) (s1 k)) (xrV m (up c (s1 k))) := by
  rw [dn_up]
  unfold xrPt
  refine Entails.of_eq (pointsTo_congr (write_eq_on (xrBlk c).view fd (xrV m (up c (s1 k))) _ fun j => ?_))
  have h0 : (j 0).val < 512 := (j 0).isLt
  have h1 : (j 1).val < 512 := (j 1).isLt
  have hc : c.val < 8 := c.isLt
  have e0 : (((xrBlk c).view.emb j) 0).val = (j 0).val := by
    show (k0_off5 c) 0 + 1 * (j 0).val = _
    rw [k0_off5_eq]; simp
  have e1 : (((xrBlk c).view.emb j) 1).val = 512 * c.val + (j 1).val := by
    show (k0_off5 c) 1 + 1 * (j 1).val = _
    rw [k0_off5_eq]; simp
  have hd : colDev ((xrBlk c).view.emb j) = c := Fin.ext (by show ((xrBlk c).view.emb j 1).val / 512 = _; rw [e1]; omega)
  have hx : colIx ((xrBlk c).view.emb j) = j := by
    funext a
    fin_cases a
    · exact Fin.ext e0
    · exact Fin.ext (by show ((xrBlk c).view.emb j 1).val % 512 = (j 1).val; rw [e1]; omega)
  show xbV m c ((xbBlk c (s1 k)).view.emb j) = xBlkV m (colDev ((xrBlk c).view.emb j)) (up c (s1 k)) (colIx ((xrBlk c).view.emb j))
  rw [hd, hx]
  refine congrArg (xbV m c) (funext fun a => ?_)
  fin_cases a
  · refine Fin.ext ?_
    show (k0_off3 c (BitVec.ofNat 32 (s1 k).val)) 0 + 1 * (j 0).val = 512 * ((c.val + (s1 k).val) % 8) + (j 0).val
    rw [k0_off3_eq]; simp
  · refine Fin.ext ?_
    show (k0_off3 c (BitVec.ofNat 32 (s1 k).val)) 1 + 1 * (j 1).val = (j 1).val
    rw [k0_off3_eq]; simp

/-- The row a transfer of maxima lands. -/
theorem land_a (c : Dev nD) (k : Fin 7) (fd : Buf (Elt F) (gaM.view.loc ((up c (s1 k) : Dev nD) : Thread nD τ))) :
    iprop((gaRow (s1 k)).view.loc ((up c (s1 k) : Dev nD) : Thread nD τ) ↦[(gaRow (s1 k)).view.set]{fullShare}
        (gaRow (s1 k)).view.write (Elt F) fd ((gaRow 0).view.read (Elt F) (gaV m c)) Finset.univ : sProp 𝕄)
      ⊢ gaPt (up c (s1 k)) (s1 k) fullShare (gaV m (up c (s1 k))) := by
  unfold gaPt
  refine Entails.of_eq (pointsTo_congr (write_eq_on (gaRow (s1 k)).view fd (gaV m (up c (s1 k))) _ fun j => ?_))
  have hj : (j 0).val = 0 := by have h : (j 0).val < 1 := (j 0).isLt; omega
  show mloc m (dn c ⟨((gaRow 0).view.emb j 0).val, _⟩) = mloc m (dn (up c (s1 k)) ⟨((gaRow (s1 k)).view.emb j 0).val, _⟩)
  have e0 : ((gaRow 0).view.emb j 0).val = 0 := by show 0 + 1 * (j 0).val = 0; omega
  have e1 : ((gaRow (s1 k)).view.emb j 0).val = (s1 k).val := by show (s1 k).val + 1 * (j 0).val = _; omega
  refine congrArg (mloc m) ?_
  have h1 : (⟨((gaRow (s1 k)).view.emb j 0).val, ((gaRow (s1 k)).view.emb j 0).isLt⟩ : Fin 8) = s1 k := Fin.ext e1
  have h0 : (⟨((gaRow 0).view.emb j 0).val, ((gaRow 0).view.emb j 0).isLt⟩ : Fin 8) = 0 := Fin.ext e0
  refine (congrArg (dn c) h0).trans (Eq.trans ?_ (congrArg (dn (up c (s1 k))) h1).symm)
  rw [dn_up]
  clear fd e0 e1 h0 h1
  revert c; decide

theorem amt_0 : amt 0 = NX := if_pos (by decide)
theorem amt_1 : amt 1 = NX := if_pos (by decide)
theorem amt_2 : amt 2 = NA := if_neg (by decide)
theorem amt_3 : amt 3 = NA := if_neg (by decide)
theorem credit_x (c : Dev nD) : (xrBlk c).view.dmaCredit = NX := by unfold View.dmaCredit; rfl
theorem credit_a (k : Fin 8) : (gaRow k).view.dmaCredit = NA := by unfold View.dmaCredit; rfl

/-- The transfer of the block of rows for the device `k + 1` places up. -/
theorem wp_send_x (c n : Dev nD) (k : Fin 7) (hn : n = up c (s1 k)) {sS sR : DmaSem sig} (hS : sS = xSem 0 k) (hR : sR = xSem 1 k)
    {hsc : (xrBlk c : Memref sig (Dev.tc n : Thread nD τ).2.kind .vmem S512x512 .bf16).view.ref.isScScratch = false}
    {hsrc : (xbBlk c (s1 k)).view.WordExact} {hdst : (xrBlk c).view.WordExact}
    {hsem : DmaTarget.Typed .vmem (.dma sR) (.remote (Dev.tc n : Thread nD τ) (xrBlk c) (.dma sS) hsc)}
    {α : Type} {Q : α → sProp 𝕄} {k' : PUnit → Prog (TpuEff nD τ sig (Elt F) Λ₀ .tc) α}
    (fd) {O' : CellTallies nD τ sig Unit} (O : CellTallies nD τ sig Unit) (hO' : O' = O + tallyAt (toCell c 1 k) () NX) (W : Waits sig Unit) :
    (records m K) ⊢ sendTok c 0 1 k -∗ xbPt c (s1 k) (xbV m c) -∗ xrPt (up c (s1 k)) c fd
      -∗ owes (c : Thread nD τ) O' W
      -∗ (iprop(owes (c : Thread nD τ) O W ∗ waitTok c 0 k)
          -∗ wp frame (wpE (defs₀ (F := F)) 𝒱₀ (c : Thread nD τ) none) Set.univ (k' ⟨⟩) Q)
      -∗ wp frame (wpE (defs₀ (F := F)) 𝒱₀ (c : Thread nD τ) none) Set.univ
          (.op (.enqueueDma (xbBlk c (s1 k)) (.remote (Dev.tc n : Thread nD τ) (xrBlk c) (.dma sS) hsc) (.dma sR) hsrc hdst hsem) k') Q := by
  subst hn hS hR hO'
  iintro #HR Hs Hsrc Hdst HO Hk
  unfold sendTok
  icases Hs with ⟨HtS, HtR, Hat⟩
  unfold xbPt xrPt
  iapply (Rounds.wp_send_pointsTo 𝒱₀ ER (Rd m) (c : Thread nD τ) none (c' := ((up c (s1 k) : Dev nD) : Thread nD τ)) (src := xbBlk c (s1 k)) (dst := xrBlk c)
    (sS := .dma (xSem 0 k)) (sem := .dma (xSem 1 k)) (fs := xbV m c) (κ₁ := K (c, some (0, k))) (κ₂ := K (up c (s1 k), some (1, k)))
    (r₁ := 0) (r₂ := 0) (d₁ := 0) (d₂ := 0) (fd := fd)
    (by rw [duties_x]; exact Finset.mem_singleton_self _) (by rw [duties_x]; exact Finset.mem_singleton_self _)
    () () NX (credit_x c) ((amount_x m c 0 k 0).trans amt_0) ((amount_x m (up c (s1 k)) 1 k 0).trans amt_1) O rfl (W := W)
    (by rw [payload_x]; exact BI.Entails.refl _)
    (by rw [payload_x]; exact land_x m c k fd)) $$ [HtS HtR Hsrc Hdst HO]
  · isplitr; · iapply (inv_at m K (c, some (0, k))); iexact HR
    isplitr; · iapply (inv_at m K (up c (s1 k), some (1, k))); iexact HR
    isplitl [Hsrc]; · iexact Hsrc
    isplitl [Hdst]; · iexact Hdst
    isplitl [HO]; · iexact HO
    isplitl [HtS]; · iexact HtS
    isplitr; · iapply (reached_at m K (c, some (0, k))); iexact HR
    isplitl [HtR]; · iexact HtR
    iapply (reached_at m K (up c (s1 k), some (1, k))); iexact HR
  iintro ⟨Hc, HO⟩
  iapply Hk
  isplitl [HO]; · iexact HO
  unfold waitTok
  rw [amt_0]
  isplitl [Hc]; · iexact Hc
  iexact Hat

/-- The transfer of the local maximum to the device `k + 1` places up. -/
theorem wp_send_a (c n : Dev nD) (k : Fin 7) (hn : n = up c (s1 k)) {sS sR : DmaSem sig} (hS : sS = xSem 2 k) (hR : sR = xSem 3 k)
    {hsc : (gaRow (s1 k) : Memref sig (Dev.tc n : Thread nD τ).2.kind .vmem S1x128 .f32).view.ref.isScScratch = false}
    {hsrc : (gaRow 0).view.WordExact} {hdst : (gaRow (s1 k)).view.WordExact}
    {hsem : DmaTarget.Typed .vmem (.dma sR) (.remote (Dev.tc n : Thread nD τ) (gaRow (s1 k)) (.dma sS) hsc)}
    {α : Type} {Q : α → sProp 𝕄} {k' : PUnit → Prog (TpuEff nD τ sig (Elt F) Λ₀ .tc) α}
    (fd) {O' : CellTallies nD τ sig Unit} (O : CellTallies nD τ sig Unit) (hO' : O' = O + tallyAt (toCell c 3 k) () NA) (W : Waits sig Unit) :
    (records m K) ⊢ sendTok c 2 3 k -∗ gaPt c 0 (Transfers.shareTokN fullShare k.val) (gaV m c) -∗ gaPt (up c (s1 k)) (s1 k) fullShare fd
      -∗ owes (c : Thread nD τ) O' W
      -∗ (iprop(owes (c : Thread nD τ) O W ∗ waitTok c 2 k)
          -∗ wp frame (wpE (defs₀ (F := F)) 𝒱₀ (c : Thread nD τ) none) Set.univ (k' ⟨⟩) Q)
      -∗ wp frame (wpE (defs₀ (F := F)) 𝒱₀ (c : Thread nD τ) none) Set.univ
          (.op (.enqueueDma (gaRow 0) (.remote (Dev.tc n : Thread nD τ) (gaRow (s1 k)) (.dma sS) hsc) (.dma sR) hsrc hdst hsem) k') Q := by
  subst hn hS hR hO'
  iintro #HR Hs Hsrc Hdst HO Hk
  unfold sendTok
  icases Hs with ⟨HtS, HtR, Hat⟩
  unfold gaPt
  iapply (Rounds.wp_send_pointsTo 𝒱₀ ER (Rd m) (c : Thread nD τ) none (c' := ((up c (s1 k) : Dev nD) : Thread nD τ)) (src := gaRow 0) (dst := gaRow (s1 k))
    (sS := .dma (xSem 2 k)) (sem := .dma (xSem 3 k)) (fs := gaV m c) (κ₁ := K (c, some (2, k))) (κ₂ := K (up c (s1 k), some (3, k)))
    (r₁ := 0) (r₂ := 0) (d₁ := 0) (d₂ := 0) (fd := fd)
    (by rw [duties_x]; exact Finset.mem_singleton_self _) (by rw [duties_x]; exact Finset.mem_singleton_self _)
    () () NA (credit_a (s1 k)) ((amount_x m c 2 k 0).trans amt_2) ((amount_x m (up c (s1 k)) 3 k 0).trans amt_3) O rfl (W := W)
    (by rw [payload_x]; exact BI.Entails.refl _)
    (by rw [payload_x]; exact land_a m c k fd)) $$ [HtS HtR Hsrc Hdst HO]
  · isplitr; · iapply (inv_at m K (c, some (2, k))); iexact HR
    isplitr; · iapply (inv_at m K (up c (s1 k), some (3, k))); iexact HR
    isplitl [Hsrc]; · iexact Hsrc
    isplitl [Hdst]; · iexact Hdst
    isplitl [HO]; · iexact HO
    isplitl [HtS]; · iexact HtS
    isplitr; · iapply (reached_at m K (c, some (2, k))); iexact HR
    isplitl [HtR]; · iexact HtR
    iapply (reached_at m K (up c (s1 k), some (3, k))); iexact HR
  iintro ⟨Hc, HO⟩
  iapply Hk
  isplitl [HO]; · iexact HO
  unfold waitTok
  rw [amt_2]
  isplitl [Hc]; · iexact Hc
  iexact Hat

end Steps

end Cert.KernelIdeal.Run

end
-- ==== Proof.Pieces.lean ====
/-
# The windows a device works in

The halves of the two `w` buffers that the copies fill, the two staging slots, the column chunks of the
result's staging buffer, and how the offsets the program computes name them.
-/
module

public import proofs.«01_k».proof.Proof.Steps

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A slot of the staging buffer for `x`; -/
abbrev sgSlot (s : Fin 2) : Memref sig .tc .vmem S512x512 .f32 := match s with
  | 0 => (sgM.slice (Rect.unit (s := S2x512x512) ![0, 0, 0] S1x512x512.size inb_S2x512x512_S1x512x512_0_0_0) (fun _ => rfl)).squeeze S512x512 squeezes_S1x512x512_S512x512
  | 1 => (sgM.slice (Rect.unit (s := S2x512x512) ![1, 0, 0] S1x512x512.size inb_S2x512x512_S1x512x512_1_0_0) (fun _ => rfl)).squeeze S512x512 squeezes_S1x512x512_S512x512
/-- a half of one of the two `w` buffers; -/
abbrev wbHalf (s h : Fin 2) : Memref sig .tc .vmem S512x4096 .f32 := match s, h with
  | 0, 0 => (wbM.slice (Rect.unit (s := S2x512x8192) ![0, 0, 0] S1x512x4096.size inb_S2x512x8192_S1x512x4096_0_0_0) (fun _ => rfl)).squeeze S512x4096 squeezes_S1x512x4096_S512x4096
  | 0, 1 => (wbM.slice (Rect.unit (s := S2x512x8192) ![0, 0, 4096] S1x512x4096.size inb_S2x512x8192_S1x512x4096_0_0_4096) (fun _ => rfl)).squeeze S512x4096 squeezes_S1x512x4096_S512x4096
  | 1, 0 => (wbM.slice (Rect.unit (s := S2x512x8192) ![1, 0, 0] S1x512x4096.size inb_S2x512x8192_S1x512x4096_1_0_0) (fun _ => rfl)).squeeze S512x4096 squeezes_S1x512x4096_S512x4096
  | 1, 1 => (wbM.slice (Rect.unit (s := S2x512x8192) ![1, 0, 4096] S1x512x4096.size inb_S2x512x8192_S1x512x4096_1_0_4096) (fun _ => rfl)).squeeze S512x4096 squeezes_S1x512x4096_S512x4096

theorem oChunk_inb (j : Fin 8) : ∀ a, (![0, 1024 * j.val] : Fin 2 → ℕ) a + S512x1024.size a ≤ S512x8192.size a := by revert j; decide
/-- a column chunk of the result. -/
abbrev oChunk (j : Fin 8) : Memref sig .tc .vmem S512x1024 .f32 :=
  oM.slice (Rect.unit (s := S512x8192) ![0, 1024 * j.val] S512x1024.size (oChunk_inb j)) (fun _ => rfl)

/-- A window of device `c`'s memory held outright at contents `f`. -/
abbrev holds {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f
/-- An array of device `c` held at the share of the copies that complete on semaphore `k`. -/
abbrev lent {sp : Space} {s : Shape} {e : EltTy} (c : Dev nD) (M : Memref sig .tc sp s e) (k : ℕ) (f : Buf (Elt F) (M.view.loc (c : Thread nD τ))) : sProp 𝕄 :=
  M.view.loc (c : Thread nD τ) ↦[M.view.set]{Transfers.shareTokN fullShare k} f

/-- A family over the eight devices, over the seven transfers, spelt out. -/
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl
theorem bigSep2 (Φ : Fin 2 → sProp 𝕄) : bigSep Finset.univ Φ = iprop(Φ 0 ∗ Φ 1) := by
  rw [bigSep_univ_eq_bigSepL [0, 1] (by decide) (by decide)]; rfl
theorem bigSep7 (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; rfl

/-- What the unit of the device `k + 1` places up hands over: the two places on it that the device writes. -/
theorem barPay_up (c : Dev nD) (k : Fin 7) :
    (barPay c (up c (s1 k)) : sProp 𝕄) = iprop((∃ f, xrPt (up c (s1 k)) c f) ∗ (∃ f, gaPt (up c (s1 k)) (s1 k) fullShare f)) := by
  unfold barPay
  rw [show dn (up c (s1 k)) c = s1 k from by revert c k; decide]

/-- All seven, spelt out. -/
theorem bars (c : Dev nD) : (bigSep Finset.univ (fun k : Fin 7 => barPay c (up c (s1 k))) : sProp 𝕄)
    = bigSep Finset.univ (fun k : Fin 7 => iprop((∃ f, xrPt (up c (s1 k)) c f) ∗ (∃ f, gaPt (up c (s1 k)) (s1 k) fullShare f))) :=
  congrArg (bigSep Finset.univ) (funext fun k => barPay_up c k)

/-! ## The program's offsets by their closed forms -/

theorem off4_off3 (c : Dev nD) (k : Fin 7) : k0_off4 c (BitVec.ofNat 32 (1 + k.val)) = k0_off3 c (BitVec.ofNat 32 (s1 k).val) := by
  rw [k0_off4_eq, k0_off3_eq]; revert c k; decide
theorem off6_off5 (c : Dev nD) : k0_off6 c = k0_off5 c := by rw [k0_off6_eq, k0_off5_eq]
theorem off7_off5 (c : Dev nD) (d : Fin 8) : k0_off7 c (BitVec.ofNat 32 d.val) = k0_off5 (dn c d) := by
  rw [k0_off7_eq, k0_off5_eq]; revert c d; decide

/-- The row block of `x_bf16` for the device `k + 1` places up, by the offset its store computes; -/
abbrev xbSt (c : Dev nD) (k : Fin 7) : Memref sig .tc .vmem S512x512 .bf16 := match k with
  | 0 => xbM.slice (Rect.unit (s := S4096x512) (k0_off4 c 1#32) S512x512.size (k0_off4_inb c 0)) (fun _ => rfl)
  | 1 => xbM.slice (Rect.unit (s := S4096x512) (k0_off4 c 2#32) S512x512.size (k0_off4_inb c 1)) (fun _ => rfl)
  | 2 => xbM.slice (Rect.unit (s := S4096x512) (k0_off4 c 3#32) S512x512.size (k0_off4_inb c 2)) (fun _ => rfl)
  | 3 => xbM.slice (Rect.unit (s := S4096x512) (k0_off4 c 4#32) S512x512.size (k0_off4_inb c 3)) (fun _ => rfl)
  | 4 => xbM.slice (Rect.unit (s := S4096x512) (k0_off4 c 5#32) S512x512.size (k0_off4_inb c 4)) (fun _ => rfl)
  | 5 => xbM.slice (Rect.unit (s := S4096x512) (k0_off4 c 6#32) S512x512.size (k0_off4_inb c 5)) (fun _ => rfl)
  | 6 => xbM.slice (Rect.unit (s := S4096x512) (k0_off4 c 7#32) S512x512.size (k0_off4_inb c 6)) (fun _ => rfl)
/-- the offset at which the column block of `x_rows` from the device `d` places down is loaded, -/
abbrev xrOff (c : Dev nD) (d : Fin 8) : Fin 2 → ℕ := match d with
  | 0 => k0_off7 c 0#32
  | 1 => k0_off7 c 1#32
  | 2 => k0_off7 c 2#32
  | 3 => k0_off7 c 3#32
  | 4 => k0_off7 c 4#32
  | 5 => k0_off7 c 5#32
  | 6 => k0_off7 c 6#32
  | 7 => k0_off7 c 7#32
theorem xrOff_eq (c : Dev nD) (d : Fin 8) : xrOff c d = k0_off7 c (BitVec.ofNat 32 d.val) := by fin_cases d <;> rfl
theorem xrOff_inb (c : Dev nD) (d : Fin 8) : ∀ a, xrOff c d a + S512x512.size a ≤ S512x4096.size a := by rw [xrOff_eq]; exact k0_off7_inb c d
/-- that block, -/
abbrev xrLd (c : Dev nD) (d : Fin 8) : Memref sig .tc .vmem S512x512 .bf16 :=
  xrM.slice (Rect.unit (s := S512x4096) (xrOff c d) S512x512.size (xrOff_inb c d)) (fun _ => rfl)
/-- the device's own column block of `x_rows`, by the offset its store computes. -/
abbrev xrOwn (c : Dev nD) : Memref sig .tc .vmem S512x512 .bf16 :=
  xrM.slice (Rect.unit (s := S512x4096) (k0_off6 c) S512x512.size (k0_off6_inb c)) (fun _ => rfl)

theorem slice_congr {s : Shape} {e : EltTy} {sp : Space} (M : Memref sig .tc sp s e) {o o' : Fin s.rank → ℕ} (h : o = o') (sz : Fin s.rank → ℕ)
    (hi : ∀ a, o a + sz a ≤ s.size a) (hi' : ∀ a, o' a + sz a ≤ s.size a) :
    M.slice (Rect.unit o sz hi) (fun _ => rfl) = M.slice (Rect.unit o' sz hi') (fun _ => rfl) := by subst h; rfl

theorem xbSt_eq (c : Dev nD) (k : Fin 7) : xbSt c k = xbBlk c (s1 k) := by
  have h := off4_off3 c k
  fin_cases k <;> exact slice_congr _ h _ _ _
theorem xrLd_eq (c : Dev nD) (d : Fin 8) : xrLd c d = xrBlk (dn c d) := slice_congr _ ((xrOff_eq c d).trans (off7_off5 c d)) _ _ _
theorem xrOwn_eq (c : Dev nD) : xrOwn c = xrBlk c := slice_congr _ (off6_off5 c) _ _ _

theorem dn_zero (c : Dev nD) : dn c 0 = c := by revert c; decide

/-- A block of `x_rows` at two spellings of one offset. -/
theorem xr_respell (c : Dev nD) {o o' : Fin 2 → ℕ} (h : o = o') (hi : ∀ a, o a + S512x512.size a ≤ S512x4096.size a)
    (hi' : ∀ a, o' a + S512x512.size a ≤ S512x4096.size a) (f : Buf (Elt F) (xrM.view.loc (c : Thread nD τ))) :
    (holds c (xrM.slice (Rect.unit (s := S512x4096) o S512x512.size hi) (fun _ => rfl)) f : sProp 𝕄)
      = holds c (xrM.slice (Rect.unit (s := S512x4096) o' S512x512.size hi') (fun _ => rfl)) f := by subst h; rfl

/-- A column block of `x_rows` by its source device, and by the offset its load computes. -/
theorem xr_ld (c j : Dev nD) (d : Fin 8) (hj : j = dn c d) (f : Buf (Elt F) (xrM.view.loc (c : Thread nD τ))) :
    (xrPt c j f : sProp 𝕄) = holds c (xrLd c d) f := by
  subst hj
  exact xr_respell c ((xrOff_eq c d).trans (off7_off5 c d)).symm _ _ f

end Cert.KernelIdeal.Run

end
-- ==== Proof.Entry.lean ====
/-
# The entry barrier

A device pays one unit on every other device's barrier, handing over the places that device will write, and
waits for the seven units on its own.
-/
module

public import proofs.«01_k».proof.Proof.Pieces

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The printed guard around the unit on device `p`'s barrier: taken exactly when `p` is another device. -/
theorem wp_guard (K : Dev nD × CellIx → ℕ) (c p : Dev nD) {cond : Prop} [Decidable cond] (hc : cond ↔ p ≠ c) (P : cond → Dev nD) (hP : ∀ h, P h = p)
    {α : Type} {Q : α → sProp 𝕄} {k : Prog (TpuEff nD τ sig (Elt F) Λ₀ .tc) α} {O' : CellTallies nD τ sig Unit} (O : CellTallies nD τ sig Unit) (hO : O' = O + tallyAt (barCell p) () (if p = c then 0 else 1)) (W : Waits sig Unit) :
    (records m K) ⊢ sigTok c p -∗ owes (c : Thread nD τ) O' W
      -∗ (owes (c : Thread nD τ) O W -∗ wp frame (wpE (defs₀ (F := F)) 𝒱₀ (c : Thread nD τ) none) Set.univ k Q)
      -∗ wp frame (wpE (defs₀ (F := F)) 𝒱₀ (c : Thread nD τ) none) Set.univ
        (if h : cond then (semSignalWord (P h : Dev nD) barS 1#32 >>= fun _ => k) else k) Q := by
  subst hO
  by_cases h : p = c
  · rw [dif_neg (fun hcd => (hc.mp hcd) h), if_pos h]
    iintro #HR Hs HO Hk
    iapply Hk
    rw [show (tallyAt (barCell p) () 0 : CellTallies nD τ sig Unit) = 0 from by ext g; simp [tallyAt_apply], add_zero]
    iexact HO
  · rw [dif_pos (hc.mpr h), hP]
    exact wp_unit m K c p h (k := fun _ => k) O W

/-- The first part of the program: the units and the wait. -/
theorem entry (K : Dev nD × CellIx → ℕ) (c : Dev nD) (W : Waits sig Unit) (Q : _ → sProp 𝕄) :
    records m K ⊢ levAts L lv -∗ bigSep Finset.univ (fun p : Dev nD => sigTok c p) -∗ cred (tallyAt (barCell c) () 7) -∗ atPos ER (barCell c) 0 ∅ 0
      -∗ owes (c : Thread nD τ) (O₀ c) W
      -∗ (iprop(owes (c : Thread nD τ) (oweX c 7) (insert (SemLoc.reg barS, ()) W) ∗ semVal (barCell c) 0 ∗ bigSep Finset.univ (fun k : Fin 7 => barPay c (up c (s1 k))))
            -∗ Q ⟨c, Scalar.remsi (Scalar.divsi (Dev.word c) 1#32) 8#32, Scalar.subi (Scalar.remsi (Scalar.divsi (Dev.word c) 1#32) 8#32) 0#32⟩)
      -∗ wp frame (wpE (defs₀ (F := F)) 𝒱₀ (c : Thread nD τ) none) Set.univ
        (k0_part1 xA (Memref.isWhole_whole _) wA (Memref.isWhole_whole _) oM (Memref.isWhole_whole _) xrM (Memref.isWhole_whole _)
          wbM (Memref.isWhole_whole _) xbM (Memref.isWhole_whole _) sgM (Memref.isWhole_whole _) gaM (Memref.isWhole_whole _) acM (Memref.isWhole_whole _)
          cc0_scratch6 cc0_scratch7 cc0_scratch8 cc0_scratch9 cc0_scratch10 cc0_scratch11) Q := by
  rw [bigSep8]
  rw [k0_part1_eq_skeleton]; unfold k0_part1_skel
  rw [show ∀ (k : Dev nD → Prog (TpuEff nD τ sig (Elt F) Λ₀ .tc) _), (Prog.lift .deviceId >>= k) = .op .deviceId k from fun k => rfl, wp_deviceId]
  iintro #HR #HL ⟨H0, H1, H2, H3, H4, H5, H6, H7⟩ Hc Hat HO Hk
  unfold O₀
  iapply (wp_guard m K c 0 (by revert c; decide) _ (fun _ => rfl) (O' := oweB c 8) (oweB c 7) rfl W) $$ HR H0 HO
  iintro HO
  iapply (wp_guard m K c 1 (by revert c; decide) _ (fun _ => rfl) (O' := oweB c 7) (oweB c 6) rfl W) $$ HR H1 HO
  iintro HO
  iapply (wp_guard m K c 2 (by revert c; decide) _ (fun _ => rfl) (O' := oweB c 6) (oweB c 5) rfl W) $$ HR H2 HO
  iintro HO
  iapply (wp_guard m K c 3 (by revert c; decide) _ (fun _ => rfl) (O' := oweB c 5) (oweB c 4) rfl W) $$ HR H3 HO
  iintro HO
  iapply (wp_guard m K c 4 (by revert c; decide) _ (fun _ => rfl) (O' := oweB c 4) (oweB c 3) rfl W) $$ HR H4 HO
  iintro HO
  iapply (wp_guard m K c 5 (by revert c; decide) _ (fun _ => rfl) (O' := oweB c 3) (oweB c 2) rfl W) $$ HR H5 HO
  iintro HO
  iapply (wp_guard m K c 6 (by revert c; decide) _ (fun _ => rfl) (O' := oweB c 2) (oweB c 1) rfl W) $$ HR H6 HO
  iintro HO
  iapply (wp_guard m K c 7 (by revert c; decide) _ (fun _ => rfl) (O' := oweB c 1) (oweX c 7) rfl W) $$ HR H7 HO
  iintro HO
  iapply (wp_bar m K c (oweX c 7) (above_oweX c 7) W) $$ HR HL Hc Hat HO
  iintro H
  rw [Prog.pure_eq_ret]; simp only [Prog.bind]; rw [wp_ret]; imodintro
  iapply Hk
  iexact H

end Cert.KernelIdeal.Run

end
-- ==== Proof.Stored.lean ====
/-
# What the copies and the casts leave in the buffers of x

A block of rows of `x` passes through a staging slot, is narrowed, and is stored in the row block it is sent
from, or, for the device's own rows, in the column block it is multiplied from.
-/
module

public import proofs.«01_k».proof.Proof.Pieces
public import Idealize.ShloMosaic.Lib.Pipeline.Value

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The rows of `x` that device `c` stages for the device `k` places up. -/
abbrev xRows (c : Dev nD) (k : Fin 8) : FVec F S512x512 .f32 :=
  (xA.slice (Rect.unit (s := S4096x512) (k0_off3 c (BitVec.ofNat 32 k.val)) S512x512.size (k0_off3_inb c k)) (fun _ => rfl)).view.read (Elt F) (xIn m c)

/-- What is read from the staging slot at `o` after a copy of `D` has filled it, narrowed. -/
abbrev castX (o : Fin 3 → ℕ) (h : ∀ a, o a + S1x512x512.size a ≤ S2x512x512.size a) (D : FVec F S512x512 .f32)
    (L : List (View.Piece (Elt F) S512x512 .f32)) : FVec F S512x512 .bf16 :=
  shapeCast S512x512 (truncf .bf16 (shapeCast S512x512 (sgM.view.readAt (Elt F) (Rect.unit (s := S2x512x512) o S1x512x512.size h).toLoadRect
    (((sgM.slice (Rect.unit (s := S2x512x512) o S1x512x512.size h) (fun _ => rfl)).squeeze S512x512 squeezes_S1x512x512_S512x512).view.writes (Elt F)
      ((sgM.slice (Rect.unit (s := S2x512x512) o S1x512x512.size h) (fun _ => rfl)).squeeze S512x512 squeezes_S1x512x512_S512x512).view.junk
      (⟨Rect.whole S512x512, D⟩ :: L))) shapeCasts_S1x512x512_S512x512) bitsLt_bf16_f32) shapeCasts_S512x512_S512x512

/-- The last whole write is what is read. -/
theorem read_writes_last {sp : Space} {s : Shape} {e : EltTy} (v : View sig .tc sp s e) (f : v.ty.Contents (Elt F)) (x : s.Idx → Elt F e)
    (L : List (View.Piece (Elt F) s e)) : v.read (Elt F) (v.writes (Elt F) f (⟨Rect.whole s, x⟩ :: L)) = x := by
  funext y
  have h := View.read_writes_cons_emb v f (Rect.whole s) x L y
  rwa [Rect.emb_whole_apply] at h

theorem castX_eq (o h) (D : FVec F S512x512 .f32) (L) : castX o h D L = truncf .bf16 D bitsLt_bf16_f32 := by
  unfold castX
  rw [shapeCast_self, ← Memref.read_squeeze_slice sgM (Rect.unit (s := S2x512x512) o S1x512x512.size h) (fun _ => rfl) squeezes_S1x512x512_S512x512
    shapeCasts_S1x512x512_S512x512, read_writes_last]

theorem xRows_apply (c : Dev nD) (k : Fin 8) (j : S512x512.Idx) : truncf .bf16 (xRows m c k) bitsLt_bf16_f32 j = xbV m c ((xbBlk c k).view.emb j) := rfl

/-- The block stored for the device `k + 1` places up is that device's rows of the narrowed `x`. -/
theorem store_x (c : Dev nD) (k : Fin 7) (o h) (L) (f : Buf (Elt F) ((xbSt c k).view.loc (c : Thread nD τ))) :
    (holds c (xbSt c k) ((xbSt c k).view.write (Elt F) f (castX o h (xRows m c (s1 k)) L) Finset.univ) : sProp 𝕄)
      ⊢ xbPt c (s1 k) (xbV m c) := by
  rw [castX_eq]
  revert f
  rw [xbSt_eq]
  intro f
  unfold xbPt
  exact Entails.of_eq (pointsTo_congr (write_eq_on (xbBlk c (s1 k)).view f (xbV m c) (truncf .bf16 (xRows m c (s1 k)) bitsLt_bf16_f32) fun j => xRows_apply m c (s1 k) j))

/-- The block a device keeps is its own share of the exchanged array. -/
theorem store_own (c : Dev nD) (o h) (L) (f : Buf (Elt F) ((xrOwn c).view.loc (c : Thread nD τ))) :
    (holds c (xrOwn c) ((xrOwn c).view.write (Elt F) f (castX o h (xRows m c 0) L) Finset.univ) : sProp 𝕄)
      ⊢ xrPt c c (xrV m c) := by
  rw [castX_eq]
  revert f
  rw [xrOwn_eq]
  intro f
  unfold xrPt
  refine Entails.of_eq (pointsTo_congr (write_eq_on (xrBlk c).view f (xrV m c) (truncf .bf16 (xRows m c 0) bitsLt_bf16_f32) fun j => ?_))
  show truncf .bf16 (xRows m c 0) bitsLt_bf16_f32 j = _
  rw [xRows_apply]
  have h1 : (j 1).val < 512 := (j 1).isLt
  have hc : c.val < 8 := c.isLt
  have e0 : (((xrBlk c).view.emb j) 0).val = (j 0).val := by
    show (k0_off5 c) 0 + 1 * (j 0).val = _
    rw [k0_off5_eq]; simp
  have e1 : (((xrBlk c).view.emb j) 1).val = 512 * c.val + (j 1).val := by
    show (k0_off5 c) 1 + 1 * (j 1).val = _
    rw [k0_off5_eq]; simp
  have hd : colDev ((xrBlk c).view.emb j) = c := Fin.ext (by show ((xrBlk c).view.emb j 1).val / 512 = _; rw [e1]; omega)
  have hx : colIx ((xrBlk c).view.emb j) = j := by
    funext a
    fin_cases a
    · exact Fin.ext e0
    · exact Fin.ext (by show ((xrBlk c).view.emb j 1).val % 512 = (j 1).val; rw [e1]; omega)
  show xbV m c ((xbBlk c 0).view.emb j) = xBlkV m (colDev ((xrBlk c).view.emb j)) c (colIx ((xrBlk c).view.emb j))
  rw [hd, hx]
  refine congrArg (xbV m c) (funext fun a => ?_)
  fin_cases a
  · refine Fin.ext ?_
    show (k0_off3 c (BitVec.ofNat 32 (0 : Fin 8).val)) 0 + 1 * (j 0).val = 512 * c.val + (j 0).val
    rw [k0_off3_eq]; simp
  · refine Fin.ext ?_
    show (k0_off3 c (BitVec.ofNat 32 (0 : Fin 8).val)) 1 + 1 * (j 1).val = (j 1).val
    rw [k0_off3_eq]; simp

end Cert.KernelIdeal.Run

end
-- ==== Proof.Chunks.lean ====
/-
# What a step of the product leaves in the result's buffer

Each of the eight steps reads one column block of the exchanged rows of `x` and a block of rows of `w`, and
adds their product to the eight column chunks of the result. The contents stored are read back here as the
partial products `accV`, after the last step as `finV`.
-/
module

public import proofs.«01_k».proof.Proof.Stored

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The windows -/

/-- Where the copy of half `h` of the rows of `w` for step `d` starts, -/
abbrev wOff (c : Dev nD) (d : Fin 8) (h : Fin 2) : Fin 2 → ℕ := match h with
  | 0 => k0_off1 c (BitVec.ofNat 32 d.val)
  | 1 => k0_off2 c (BitVec.ofNat 32 d.val)
theorem wOff_eq (c : Dev nD) (d : Fin 8) (h : Fin 2) : wOff c d h = ![512 * (dn c d).val, 4096 * h.val] := by
  fin_cases h
  · show k0_off1 c (BitVec.ofNat 32 d.val) = _
    rw [k0_off1_eq]; revert c d; decide
  · show k0_off2 c (BitVec.ofNat 32 d.val) = _
    rw [k0_off2_eq]; revert c d; decide
theorem wOff_inb (c : Dev nD) (d : Fin 8) (h : Fin 2) : ∀ a, wOff c d h a + S512x4096.size a ≤ S4096x8192.size a := by
  rw [wOff_eq]; revert c d h; decide
/-- what it copies, -/
abbrev wCopy (c : Dev nD) (d : Fin 8) (h : Fin 2) : FVec F S512x4096 .f32 :=
  (wA.slice (Rect.unit (s := S4096x8192) (wOff c d h) S512x4096.size (wOff_inb c d h)) (fun _ => rfl)).view.read (Elt F) (wIn m c)

theorem half_inb (s h : Fin 2) : ∀ a, (![s.val, 0, 4096 * h.val] : Fin 3 → ℕ) a + S1x512x4096.size a ≤ S2x512x8192.size a := by revert s h; decide
/-- the half of a buffer it fills, -/
abbrev halfOf (s h : Fin 2) : Memref sig .tc .vmem S512x4096 .f32 :=
  (wbM.slice (Rect.unit (s := S2x512x8192) ![s.val, 0, 4096 * h.val] S1x512x4096.size (half_inb s h)) (fun _ => rfl)).squeeze S512x4096 squeezes_S1x512x4096_S512x4096

theorem wGet_inb (s : Fin 2) (j : Fin 8) : ∀ a, (![s.val, 0, 1024 * j.val] : Fin 3 → ℕ) a + S1x512x1024.size a ≤ S2x512x8192.size a := by revert s j; decide
/-- and what is read of it for chunk `j`. -/
abbrev wGet (c : Dev nD) (d : Fin 8) (s h : Fin 2) (j : Fin 8) (f : wbM.view.ty.Contents (Elt F)) (L : List (View.Piece (Elt F) S512x4096 .f32)) : FVec F S1x512x1024 .f32 :=
  wbM.view.readAt (Elt F) (Rect.unit (s := S2x512x8192) ![s.val, 0, 1024 * j.val] S1x512x1024.size (wGet_inb s j)).toLoadRect
    ((halfOf s h).view.writes (Elt F) f (⟨Rect.whole S512x4096, wCopy m c d h⟩ :: L))
/-- The column block of `x_rows` a step reads; -/
abbrev xGet (c : Dev nD) (d : Fin 8) : FVec F S512x512 .bf16 :=
  xrM.view.readAt (Elt F) (Rect.unit (s := S512x4096) (xrOff c d) S512x512.size (xrOff_inb c d)).toLoadRect (xrV m c)
/-- the chunk of the result it adds to, -/
abbrev oGet (c : Dev nD) (d : ℕ) (j : Fin 8) : FVec F S512x1024 .f32 :=
  oM.view.readAt (Elt F) (Rect.unit (s := S512x8192) ![0, 1024 * j.val] S512x1024.size (oChunk_inb j)).toLoadRect (accW m c d)
/-- the product it adds, -/
abbrev prod (c : Dev nD) (d : Fin 8) (s h : Fin 2) (j : Fin 8) (f : wbM.view.ty.Contents (Elt F)) (L : List (View.Piece (Elt F) S512x4096 .f32)) : FVec F S512x1024 .f32 :=
  mm (xGet m c d) (shapeCast S512x1024 (wGet m c d s h j f L) shapeCasts_S1x512x1024_S512x1024)
/-- the sum, -/
abbrev accd (c : Dev nD) (e : ℕ) (d : Fin 8) (s h : Fin 2) (j : Fin 8) (f : wbM.view.ty.Contents (Elt F)) (L : List (View.Piece (Elt F) S512x4096 .f32)) : FVec F S512x1024 .f32 :=
  addf (shapeCast S512x1024 (oGet m c e j) shapeCasts_S512x1024_S512x1024) (prod m c d s h j f L)
/-- with the negative entries replaced by zero. -/
abbrev relud (c : Dev nD) (e : ℕ) (d : Fin 8) (s h : Fin 2) (j : Fin 8) (f : wbM.view.ty.Contents (Elt F)) (L : List (View.Piece (Elt F) S512x4096 .f32)) : FVec F S512x1024 .f32 :=
  maximumf (accd m c e d s h j f L) (broadcast S512x1024 (Scalar.ofBits .f32 0x00000000#32))
/-- The chunk of the result with `V` stored. -/
abbrev oPut (c : Dev nD) (j : Fin 8) (f : Buf (Elt F) (oM.view.loc (c : Thread nD τ))) (V : FVec F S512x1024 .f32) : sProp 𝕄 :=
  holds c (oChunk j) ((oM.access (Rect.unit (s := S512x8192) ![0, 1024 * j.val] S512x1024.size (oChunk_inb j))).write (Elt F) f V Finset.univ)

/-! ## What they hold -/

theorem x_get (c : Dev nD) (d : Fin 8) : xGet m c d = xBlkV m (dn c d) c := by
  funext i
  have h1 : (i 1).val < 512 := (i 1).isLt
  have hn : (dn c d).val < 8 := (dn c d).isLt
  let y : S512x4096.Idx := (xrLd c d).view.emb i
  have e := (xrOff_eq c d).trans ((off7_off5 c d).trans (k0_off5_eq (dn c d)))
  have e0 : (y 0).val = (i 0).val := by
    show (xrOff c d) 0 + 1 * (i 0).val = _
    rw [e]; simp
  have e1 : (y 1).val = 512 * (dn c d).val + (i 1).val := by
    show (xrOff c d) 1 + 1 * (i 1).val = _
    rw [e]; simp
  show xBlkV m (colDev y) c (colIx y) = _
  have hd : colDev y = dn c d := Fin.ext (by show (y 1).val / 512 = _; rw [e1]; omega)
  have hx : colIx y = i := by
    funext a
    fin_cases a
    · exact Fin.ext e0
    · exact Fin.ext (by show (y 1).val % 512 = (i 1).val; rw [e1]; omega)
  rw [hd, hx]

theorem o_emb0 (j : Fin 8) (i : S512x1024.Idx) : (((oChunk j).view.emb i : S512x8192.Idx) 0).val = (i 0).val := by
  show 0 + 1 * (i 0).val = _; omega
theorem o_emb1 (j : Fin 8) (i : S512x1024.Idx) : (((oChunk j).view.emb i : S512x8192.Idx) 1).val = 1024 * j.val + (i 1).val := by
  show 1024 * j.val + 1 * (i 1).val = _; omega
theorem chunk_emb (j : Fin 8) (i : S512x1024.Idx) : chunkOf ((oChunk j).view.emb i : S512x8192.Idx) = j := Fin.ext (by
  have h1 : (i 1).val < 1024 := (i 1).isLt
  show (((oChunk j).view.emb i : S512x8192.Idx) 1).val / 1024 = _
  rw [o_emb1]; omega)
theorem chunkIx_emb (j : Fin 8) (i : S512x1024.Idx) : chunkIx ((oChunk j).view.emb i : S512x8192.Idx) = i := by
  have h1 : (i 1).val < 1024 := (i 1).isLt
  funext a
  fin_cases a
  · exact Fin.ext (o_emb0 j i)
  · refine Fin.ext ?_
    show (((oChunk j).view.emb i : S512x8192.Idx) 1).val % 1024 = (i 1).val
    rw [o_emb1]; omega
theorem accW_emb (c : Dev nD) (d : ℕ) (j : Fin 8) (i : S512x1024.Idx) : accW m c d ((oChunk j).view.emb i) = accV m c j d i := by
  show accV m c (chunkOf ((oChunk j).view.emb i : S512x8192.Idx)) d (chunkIx ((oChunk j).view.emb i : S512x8192.Idx)) = _
  rw [chunk_emb, chunkIx_emb]
theorem finW_emb (c : Dev nD) (j : Fin 8) (i : S512x1024.Idx) : finW m c ((oChunk j).view.emb i) = finV m c j i := by
  show finV m c (chunkOf ((oChunk j).view.emb i : S512x8192.Idx)) (chunkIx ((oChunk j).view.emb i : S512x8192.Idx)) = _
  rw [chunk_emb, chunkIx_emb]

theorem o_get (c : Dev nD) (d : ℕ) (j : Fin 8) : oGet m c d j = accV m c j d := funext fun i => accW_emb m c d j i

/-- A chunk holds what is stored in it. -/
theorem o_put (c : Dev nD) (j : Fin 8) (f) (V : FVec F S512x1024 .f32) (W : Buf (Elt F) (oM.view.loc (c : Thread nD τ)))
    (h : ∀ i, V i = W ((oChunk j).view.emb i)) : (oPut c j f V : sProp 𝕄) ⊢ holds c (oChunk j) W :=
  Entails.of_eq (pointsTo_congr (write_eq_on (oChunk j).view f W V fun i => h i))

/-- The entry of a half that is entry `i` of chunk `j`. -/
def halfIx (j : Fin 8) (i : S512x1024.Idx) : S512x4096.Idx :=
  ix2 (i 0).val (1024 * (j.val % 4) + (i 1).val) (i 0).isLt (by have h₂ : (i 1).val < 1024 := (i 1).isLt; omega)
/-- A matrix index under one leading axis of length one. -/
abbrev lead {n₀ n₁ : ℕ} (y : (⟨2, ![n₀, n₁]⟩ : Shape).Idx) : (⟨3, ![1, n₀, n₁]⟩ : Shape).Idx := Fin.cons (⟨0, Nat.one_pos⟩ : Fin 1) y

theorem half_emb (s h : Fin 2) (y : S512x4096.Idx) :
    ((halfOf s h).view.emb y : S2x512x8192.Idx) = (Rect.unit (s := S2x512x8192) ![s.val, 0, 4096 * h.val] S1x512x4096.size (half_inb s h)).emb (lead y) :=
  congrArg (Rect.unit (s := S2x512x8192) ![s.val, 0, 4096 * h.val] S1x512x4096.size (half_inb s h)).emb (Shape.reshapeEquiv_cons_one _ y)

/-- Where the entries of a chunk lie in the half that holds it. -/
theorem chunk_half (s h : Fin 2) (j : Fin 8) (hj : j.val / 4 = h.val) (i : S512x1024.Idx) :
    (Rect.unit (s := S2x512x8192) ![s.val, 0, 1024 * j.val] S1x512x1024.size (wGet_inb s j)).emb (lead i)
      = ((halfOf s h).view.emb (halfIx j i) : S2x512x8192.Idx) := by
  rw [half_emb]
  funext a
  refine Fin.ext ?_
  fin_cases a
  · rfl
  · show 0 + 1 * (i 0).val = 0 + 1 * (i 0).val; rfl
  · show 1024 * j.val + 1 * (i 1).val = 4096 * h.val + 1 * (1024 * (j.val % 4) + (i 1).val)
    omega

theorem read_half (s h : Fin 2) (j : Fin 8) (hj : j.val / 4 = h.val) (i : S512x1024.Idx) (G : wbM.view.ty.Contents (Elt F)) :
    wbM.view.readAt (Elt F) (Rect.unit (s := S2x512x8192) ![s.val, 0, 1024 * j.val] S1x512x1024.size (wGet_inb s j)).toLoadRect G (lead i)
      = (halfOf s h).view.read (Elt F) G (halfIx j i) :=
  congrArg (fun y : S2x512x8192.Idx => (G y : F .f32)) (chunk_half s h j hj i)

/-- Where the entries of a chunk come from in `w`. -/
theorem copy_apply (c : Dev nD) (d : Fin 8) (h : Fin 2) (j : Fin 8) (hj : j.val / 4 = h.val) (i : S512x1024.Idx) :
    wCopy m c d h (halfIx j i) = wBlkV m c (dn c d) j i := by
  have h1 : (i 1).val < 1024 := (i 1).isLt
  have e := wOff_eq c d h
  refine congrArg (wIn m c) (funext fun a => Fin.ext ?_)
  fin_cases a
  · show wOff c d h 0 + 1 * (i 0).val = 512 * (dn c d).val + (i 0).val
    rw [e]; simp
  · show wOff c d h 1 + 1 * (1024 * (j.val % 4) + (i 1).val) = 1024 * j.val + (i 1).val
    rw [e]; simp; omega

theorem w_get (c : Dev nD) (d : Fin 8) (s h : Fin 2) (j : Fin 8) (hj : j.val / 4 = h.val) (f L) :
    shapeCast S512x1024 (wGet m c d s h j f L) shapeCasts_S1x512x1024_S512x1024 = wBlkV m c (dn c d) j := by
  funext i
  refine (shapeCast_dropUnit_apply _ (wGet m c d s h j f L) _ i).trans ?_
  refine (read_half s h j hj i _).trans ?_
  rw [read_writes_last]
  exact copy_apply m c d h j hj i

theorem prod_eq (c : Dev nD) (d : Fin 8) (s h : Fin 2) (j : Fin 8) (hj : j.val / 4 = h.val) (f L) :
    prod m c d s h j f L = mm (xBlkV m (dn c d) c) (wBlkV m c (dn c d) j) := by
  unfold prod; rw [x_get, w_get m c d s h j hj]

theorem accd_eq (c : Dev nD) (e : ℕ) (d : Fin 8) (hd : d = Fin.ofNat 8 (e + 1)) (s h : Fin 2) (j : Fin 8) (hj : j.val / 4 = h.val) (f L) :
    accd m c e d s h j f L = accV m c j (e + 1) := by
  unfold accd; rw [prod_eq m c d s h j hj, shapeCast_self, o_get]; subst hd; rfl

theorem relud_eq (c : Dev nD) (s h : Fin 2) (j : Fin 8) (hj : j.val / 4 = h.val) (f L) :
    relud m c 6 7 s h j f L = finV m c j := by
  unfold relud; rw [accd_eq m c 6 7 rfl s h j hj]; rfl

/-! ## The three kinds of step -/

variable (c : Dev nD) (s : Fin 2) (f0 f1 f2 f3 f4 f5 f6 f7 : Buf (Elt F) (oM.view.loc (c : Thread nD τ)))
  (g0 g1 : wbM.view.ty.Contents (Elt F)) (L0 L1 : List (View.Piece (Elt F) S512x4096 .f32))

/-- All chunks with one array's contents. -/
abbrev oAll (W : Buf (Elt F) (oM.view.loc (c : Thread nD τ))) : sProp 𝕄 :=
  iprop(holds c (oChunk 0) W ∗ holds c (oChunk 1) W ∗ holds c (oChunk 2) W ∗ holds c (oChunk 3) W
    ∗ holds c (oChunk 4) W ∗ holds c (oChunk 5) W ∗ holds c (oChunk 6) W ∗ holds c (oChunk 7) W)

/-- The first step stores the products, -/
theorem stage_first : (iprop(oPut c 0 f0 (prod m c 0 s 0 0 g0 L0) ∗ oPut c 1 f1 (prod m c 0 s 0 1 g0 L0) ∗ oPut c 2 f2 (prod m c 0 s 0 2 g0 L0)
      ∗ oPut c 3 f3 (prod m c 0 s 0 3 g0 L0) ∗ oPut c 4 f4 (prod m c 0 s 1 4 g1 L1) ∗ oPut c 5 f5 (prod m c 0 s 1 5 g1 L1)
      ∗ oPut c 6 f6 (prod m c 0 s 1 6 g1 L1) ∗ oPut c 7 f7 (prod m c 0 s 1 7 g1 L1)) : sProp 𝕄) ⊢ oAll c (accW m c 0) := by
  have h : ∀ (j : Fin 8) (h : Fin 2) (hj : j.val / 4 = h.val) f g L, (oPut c j f (prod m c 0 s h j g L) : sProp 𝕄) ⊢ holds c (oChunk j) (accW m c 0) :=
    fun j h hj f g L => o_put c j f _ _ fun i => by rw [prod_eq m c 0 s h j hj, accW_emb]; rfl
  exact BI.sep_mono (h 0 0 rfl _ _ _) (BI.sep_mono (h 1 0 rfl _ _ _) (BI.sep_mono (h 2 0 rfl _ _ _) (BI.sep_mono (h 3 0 rfl _ _ _)
    (BI.sep_mono (h 4 1 rfl _ _ _) (BI.sep_mono (h 5 1 rfl _ _ _) (BI.sep_mono (h 6 1 rfl _ _ _) (h 7 1 rfl _ _ _)))))))

/-- the later ones add theirs, -/
theorem stage_next (e : ℕ) (d : Fin 8) (hd : d = Fin.ofNat 8 (e + 1)) :
    (iprop(oPut c 0 f0 (accd m c e d s 0 0 g0 L0) ∗ oPut c 1 f1 (accd m c e d s 0 1 g0 L0) ∗ oPut c 2 f2 (accd m c e d s 0 2 g0 L0)
      ∗ oPut c 3 f3 (accd m c e d s 0 3 g0 L0) ∗ oPut c 4 f4 (accd m c e d s 1 4 g1 L1) ∗ oPut c 5 f5 (accd m c e d s 1 5 g1 L1)
      ∗ oPut c 6 f6 (accd m c e d s 1 6 g1 L1) ∗ oPut c 7 f7 (accd m c e d s 1 7 g1 L1)) : sProp 𝕄) ⊢ oAll c (accW m c (e + 1)) := by
  have h : ∀ (j : Fin 8) (h : Fin 2) (hj : j.val / 4 = h.val) f g L, (oPut c j f (accd m c e d s h j g L) : sProp 𝕄) ⊢ holds c (oChunk j) (accW m c (e + 1)) :=
    fun j h hj f g L => o_put c j f _ _ fun i => by rw [accd_eq m c e d hd s h j hj, accW_emb]
  exact BI.sep_mono (h 0 0 rfl _ _ _) (BI.sep_mono (h 1 0 rfl _ _ _) (BI.sep_mono (h 2 0 rfl _ _ _) (BI.sep_mono (h 3 0 rfl _ _ _)
    (BI.sep_mono (h 4 1 rfl _ _ _) (BI.sep_mono (h 5 1 rfl _ _ _) (BI.sep_mono (h 6 1 rfl _ _ _) (h 7 1 rfl _ _ _)))))))

/-- and the last one replaces the negative entries. -/
theorem stage_last :
    (iprop(oPut c 0 f0 (relud m c 6 7 s 0 0 g0 L0) ∗ oPut c 1 f1 (relud m c 6 7 s 0 1 g0 L0) ∗ oPut c 2 f2 (relud m c 6 7 s 0 2 g0 L0)
      ∗ oPut c 3 f3 (relud m c 6 7 s 0 3 g0 L0) ∗ oPut c 4 f4 (relud m c 6 7 s 1 4 g1 L1) ∗ oPut c 5 f5 (relud m c 6 7 s 1 5 g1 L1)
      ∗ oPut c 6 f6 (relud m c 6 7 s 1 6 g1 L1) ∗ oPut c 7 f7 (relud m c 6 7 s 1 7 g1 L1)) : sProp 𝕄) ⊢ oAll c (finW m c) := by
  have h : ∀ (j : Fin 8) (h : Fin 2) (hj : j.val / 4 = h.val) f g L, (oPut c j f (relud m c 6 7 s h j g L) : sProp 𝕄) ⊢ holds c (oChunk j) (finW m c) :=
    fun j h hj f g L => o_put c j f _ _ fun i => by rw [relud_eq m c s h j hj, finW_emb]
  exact BI.sep_mono (h 0 0 rfl _ _ _) (BI.sep_mono (h 1 0 rfl _ _ _) (BI.sep_mono (h 2 0 rfl _ _ _) (BI.sep_mono (h 3 0 rfl _ _ _)
    (BI.sep_mono (h 4 1 rfl _ _ _) (BI.sep_mono (h 5 1 rfl _ _ _) (BI.sep_mono (h 6 1 rfl _ _ _) (h 7 1 rfl _ _ _)))))))

/-- The largest entry the last step computes along the way. -/
theorem mloc_eq : Scalar.maximumf (Scalar.maximumf (Scalar.maximumf (Scalar.maximumf (Scalar.maximumf (Scalar.maximumf (Scalar.maximumf (Scalar.maximumf
      (Scalar.ofBits .f32 0x00000000#32) (cmax (relud m c 6 7 s 0 0 g0 L0))) (cmax (relud m c 6 7 s 0 1 g0 L0))) (cmax (relud m c 6 7 s 0 2 g0 L0)))
      (cmax (relud m c 6 7 s 0 3 g0 L0))) (cmax (relud m c 6 7 s 1 4 g1 L1))) (cmax (relud m c 6 7 s 1 5 g1 L1))) (cmax (relud m c 6 7 s 1 6 g1 L1)))
      (cmax (relud m c 6 7 s 1 7 g1 L1)) = mloc m c := by
  rw [relud_eq m c s 0 0 rfl, relud_eq m c s 0 1 rfl, relud_eq m c s 0 2 rfl, relud_eq m c s 0 3 rfl, relud_eq m c s 1 4 rfl, relud_eq m c s 1 5 rfl,
    relud_eq m c s 1 6 rfl, relud_eq m c s 1 7 rfl]
  rfl

/-! ## The arrivals -/

theorem credit_xr (o : Fin 2 → ℕ) (h : ∀ a, o a + S512x512.size a ≤ S512x4096.size a) :
    (xrM.slice (Rect.unit (s := S512x4096) o S512x512.size h) (fun _ => rfl)).view.dmaCredit = amt 1 := by
  rw [amt_1]; unfold View.dmaCredit; rfl
theorem credit_xb (o : Fin 2 → ℕ) (h : ∀ a, o a + S512x512.size a ≤ S4096x512.size a) :
    (xbM.slice (Rect.unit (s := S4096x512) o S512x512.size h) (fun _ => rfl)).view.dmaCredit = amt 0 := by
  rw [amt_0]; unfold View.dmaCredit; rfl

/-- What is still owed then ranks above the arrival. -/
theorem above_recv (c : Dev nD) (k : Fin 7) : Above (lv (xCell c 1 k) ()) (oweX c 0) := by rw [lv_x]; exact above_oweA c 7

/-- What arrives is the block the step loads. -/
theorem recv_ld (k : Fin 7) (d : Fin 8) (hd : d = s1 k) : (xPay m c 1 k : sProp 𝕄) = holds c (xrLd c d) (xrV m c) := by
  show (xrPt c (dn c (s1 k)) (xrV m c) : sProp 𝕄) = _
  subst hd; exact xr_ld c _ _ rfl _

end Cert.KernelIdeal.Run

end
-- ==== Proof.Split.lean ====
/-
# Buffers cut into the pieces that are worked on

Each buffer held whole is held piece by piece: `x_rows` by column blocks, `x_bf16` by row blocks, the `w`
buffers by halves, the staging buffer by slots, the gathered maxima by rows, the result by column chunks and
by column quarters.
-/
module

public import proofs.«01_k».proof.Proof.Chunks
public import Idealize.ShloMosaic.Lib.Ring

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover pointsTo_blocks pointsTo_blocks_join_exists)

variable {F : FTy → Type} [FloatOps F]

local notation "𝕄" => MT nD τ sig Unit (Elt F) ℕ UU ℕ

theorem oQuart_inb (b : Fin 4) : ∀ a, (![0, 2048 * b.val] : Fin 2 → ℕ) a + S512x2048.size a ≤ S512x8192.size a := by revert b; decide
/-- A column quarter of the result. -/
abbrev oQuart (b : Fin 4) : Memref sig .tc .vmem S512x2048 .f32 :=
  oM.slice (Rect.unit (s := S512x8192) ![0, 2048 * b.val] S512x2048.size (oQuart_inb b)) (fun _ => rfl)

/-! ## The rectangles -/

theorem rect_congr {s : Shape} {o o' : Fin s.rank → ℕ} (h : o = o') (sz : Fin s.rank → ℕ) (hi : ∀ a, o a + sz a ≤ s.size a)
    (hi' : ∀ a, o' a + sz a ≤ s.size a) : (Rect.unit o sz hi).set = (Rect.unit o' sz hi').set := by subst h; rfl

theorem off_rows (c : Dev nD) (k : Fin 8) : k0_off3 c (BitVec.ofNat 32 k.val) = ![512 * (up c k).val, 0] := by
  rw [k0_off3_eq]; rfl

theorem xr_set (j : Dev nD) : (xrBlk j).view.set = (Rect.unit (s := S512x4096) (k0_off5 j) S512x512.size (k0_off5_inb j)).set := View.set_slice_whole _ _
theorem xb_set (c : Dev nD) (k : Fin 8) : (xbBlk c k).view.set = (Rect.unit (s := S4096x512) (k0_off3 c (BitVec.ofNat 32 k.val)) S512x512.size (k0_off3_inb c k)).set :=
  View.set_slice_whole _ _
theorem ga_set (k : Fin 8) : (gaRow k).view.set = (Rect.unit (s := S8x128) ![k.val, 0] S1x128.size (gaRow_inb k)).set := View.set_slice_whole _ _
theorem oc_set (j : Fin 8) : (oChunk j).view.set = (Rect.unit (s := S512x8192) ![0, 1024 * j.val] S512x1024.size (oChunk_inb j)).set := View.set_slice_whole _ _
theorem oq_set (b : Fin 4) : (oQuart b).view.set = (Rect.unit (s := S512x8192) ![0, 2048 * b.val] S512x2048.size (oQuart_inb b)).set := View.set_slice_whole _ _
theorem wb_set (s h : Fin 2) : (halfOf s h).view.set = (Rect.unit (s := S2x512x8192) ![s.val, 0, 4096 * h.val] S1x512x4096.size (half_inb s h)).set :=
  (View.set_reshape _ _).trans (View.set_slice_whole _ _)

theorem slot_inb (s : Fin 2) : ∀ a, (![s.val, 0, 0] : Fin 3 → ℕ) a + S1x512x512.size a ≤ S2x512x512.size a := by revert s; decide
/-- A slot of the staging buffer by its number. -/
abbrev slotOf (s : Fin 2) : Memref sig .tc .vmem S512x512 .f32 :=
  (sgM.slice (Rect.unit (s := S2x512x512) ![s.val, 0, 0] S1x512x512.size (slot_inb s)) (fun _ => rfl)).squeeze S512x512 squeezes_S1x512x512_S512x512
theorem sg_set (s : Fin 2) : (slotOf s).view.set = (Rect.unit (s := S2x512x512) ![s.val, 0, 0] S1x512x512.size (slot_inb s)).set :=
  (View.set_reshape _ _).trans (View.set_slice_whole _ _)

/-! ## They are disjoint and cover -/

theorem xr_disj (j j' : Dev nD) (h : j ≠ j') : Disjoint (xrBlk j).view.set (xrBlk j').view.set := by
  rw [xr_set, xr_set]
  exact lead_disjoint (s := S512x4096) (NB := 8) 1 512 (fun j : Fin 8 => k0_off5 j) S512x512.size (fun j => k0_off5_inb j)
    (fun j => by rw [k0_off5_eq]; rfl) rfl j j' h
theorem xr_cover : Finset.biUnion (β := Shape.Idx S512x4096) Finset.univ (fun j : Dev nD => (xrBlk j).view.set) = Finset.univ := by
  exact (Finset.biUnion_congr rfl (fun j _ => xr_set j)).trans (lead_cover (s := S512x4096) (NB := 8) 1 512 (fun j : Fin 8 => k0_off5 j) S512x512.size (fun j => k0_off5_inb j)
    (fun j => by rw [k0_off5_eq]; rfl) (fun j a ha => by rw [k0_off5_eq]; revert ha; fin_cases a <;> simp) rfl
    (fun a ha => by revert ha; fin_cases a <;> simp) rfl)

theorem ga_disj (j j' : Fin 8) (h : j ≠ j') : Disjoint (gaRow j).view.set (gaRow j').view.set := by
  rw [ga_set, ga_set]
  exact lead_disjoint (s := S8x128) (NB := 8) 0 1 (fun j : Fin 8 => ![j.val, 0]) S1x128.size gaRow_inb (fun j => by simp) rfl j j' h
theorem ga_cover : Finset.biUnion (β := Shape.Idx S8x128) Finset.univ (fun j : Fin 8 => (gaRow j).view.set) = Finset.univ := by
  exact (Finset.biUnion_congr rfl (fun j _ => ga_set j)).trans (lead_cover (s := S8x128) (NB := 8) 0 1 (fun j : Fin 8 => ![j.val, 0]) S1x128.size gaRow_inb (fun j => by simp)
    (fun j a ha => by revert ha; fin_cases a <;> simp) rfl (fun a ha => by revert ha; fin_cases a <;> simp) rfl)

theorem oc_disj (j j' : Fin 8) (h : j ≠ j') : Disjoint (oChunk j).view.set (oChunk j').view.set := by
  rw [oc_set, oc_set]
  exact lead_disjoint (s := S512x8192) (NB := 8) 1 1024 (fun j : Fin 8 => ![0, 1024 * j.val]) S512x1024.size oChunk_inb (fun j => rfl) rfl j j' h
theorem oc_cover : Finset.biUnion (β := Shape.Idx S512x8192) Finset.univ (fun j : Fin 8 => (oChunk j).view.set) = Finset.univ := by
  exact (Finset.biUnion_congr rfl (fun j _ => oc_set j)).trans (lead_cover (s := S512x8192) (NB := 8) 1 1024 (fun j : Fin 8 => ![0, 1024 * j.val]) S512x1024.size oChunk_inb (fun j => rfl)
    (fun j a ha => by revert ha; fin_cases a <;> simp) rfl (fun a ha => by revert ha; fin_cases a <;> simp) rfl)

theorem oq_disj (j j' : Fin 4) (h : j ≠ j') : Disjoint (oQuart j).view.set (oQuart j').view.set := by
  rw [oq_set, oq_set]
  exact lead_disjoint (s := S512x8192) (NB := 4) 1 2048 (fun j : Fin 4 => ![0, 2048 * j.val]) S512x2048.size oQuart_inb (fun j => rfl) rfl j j' h
theorem oq_cover : Finset.biUnion (β := Shape.Idx S512x8192) Finset.univ (fun j : Fin 4 => (oQuart j).view.set) = Finset.univ := by
  exact (Finset.biUnion_congr rfl (fun j _ => oq_set j)).trans (lead_cover (s := S512x8192) (NB := 4) 1 2048 (fun j : Fin 4 => ![0, 2048 * j.val]) S512x2048.size oQuart_inb (fun j => rfl)
    (fun j a ha => by revert ha; fin_cases a <;> simp) rfl (fun a ha => by revert ha; fin_cases a <;> simp) rfl)

theorem sg_disj (j j' : Fin 2) (h : j ≠ j') : Disjoint (slotOf j).view.set (slotOf j').view.set := by
  rw [sg_set, sg_set]
  exact lead_disjoint (s := S2x512x512) (NB := 2) 0 1 (fun j : Fin 2 => ![j.val, 0, 0]) S1x512x512.size slot_inb (fun j => by simp) rfl j j' h
theorem sg_cover : Finset.biUnion (β := Shape.Idx S2x512x512) Finset.univ (fun j : Fin 2 => (slotOf j).view.set) = Finset.univ := by
  exact (Finset.biUnion_congr rfl (fun j _ => sg_set j)).trans (lead_cover (s := S2x512x512) (NB := 2) 0 1 (fun j : Fin 2 => ![j.val, 0, 0]) S1x512x512.size slot_inb (fun j => by simp)
    (fun j a ha => by revert ha; fin_cases a <;> simp) rfl (fun a ha => by revert ha; fin_cases a <;> simp) rfl)

/-- The row block of the device `k` places up, by that device's number. -/
theorem xb_set_up (c : Dev nD) (k : Fin 8) : (xbBlk c k).view.set
    = (Rect.unit (s := S4096x512) ![512 * (up c k).val, 0] S512x512.size (by rw [← off_rows]; exact k0_off3_inb c k)).set :=
  (xb_set c k).trans (rect_congr (off_rows c k) _ _ _)
theorem rows_inb (j : Fin 8) : ∀ a, (![512 * j.val, 0] : Fin 2 → ℕ) a + S512x512.size a ≤ S4096x512.size a := by revert j; decide
theorem xb_disj (c : Dev nD) (k k' : Fin 8) (h : k ≠ k') : Disjoint (xbBlk c k).view.set (xbBlk c k').view.set := by
  rw [xb_set_up, xb_set_up]
  exact lead_disjoint (s := S4096x512) (NB := 8) 0 512 (fun j : Fin 8 => ![512 * j.val, 0]) S512x512.size rows_inb (fun j => rfl) rfl (up c k) (up c k')
    (fun e => h (up_inj c k k' e))
theorem xb_cover (c : Dev nD) : Finset.biUnion (β := Shape.Idx S4096x512) Finset.univ (fun k : Fin 8 => (xbBlk c k).view.set) = Finset.univ := by
  have h := lead_cover (s := S4096x512) (NB := 8) 0 512 (fun j : Fin 8 => ![512 * j.val, 0]) S512x512.size rows_inb (fun j => rfl)
    (fun j a ha => by revert ha; fin_cases a <;> simp) rfl (fun a ha => by revert ha; fin_cases a <;> simp) rfl
  refine Finset.eq_univ_of_forall fun i => ?_
  obtain ⟨j, -, hj⟩ := Finset.mem_biUnion.mp (h ▸ Finset.mem_univ i)
  refine Finset.mem_biUnion.mpr ⟨dn j c, Finset.mem_univ _, ?_⟩
  rw [xb_set_up, rect_congr (congrArg (fun u : Fin 8 => ![512 * u.val, 0]) (up_dn_self c j)) _ _ (rows_inb j)]
  exact hj

theorem wb_disj (p p' : Fin 2 × Fin 2) (h : p ≠ p') : Disjoint (halfOf p.1 p.2).view.set (halfOf p'.1 p'.2).view.set := by
  rw [wb_set, wb_set, Finset.disjoint_left]
  intro i hi hi'
  have h1 := Rect.mem_set_unit.mp hi
  have h2 := Rect.mem_set_unit.mp hi'
  have a1 := h1 0; have a2 := h2 0; have b1 := h1 2; have b2 := h2 2
  change p.1.val ≤ _ ∧ _ < p.1.val + 1 at a1
  change p'.1.val ≤ _ ∧ _ < p'.1.val + 1 at a2
  change 4096 * p.2.val ≤ _ ∧ _ < 4096 * p.2.val + 4096 at b1
  change 4096 * p'.2.val ≤ _ ∧ _ < 4096 * p'.2.val + 4096 at b2
  exact h (Prod.ext (Fin.ext (by omega)) (Fin.ext (by omega)))
theorem wb_cover : Finset.biUnion (β := Shape.Idx S2x512x8192) Finset.univ (fun p : Fin 2 × Fin 2 => (halfOf p.1 p.2).view.set) = Finset.univ := by
  refine Finset.eq_univ_of_forall fun i => ?_
  have i0 : (i 0).val < 2 := (i 0).isLt
  have i1 : (i 1).val < 512 := (i 1).isLt
  have i2 : (i 2).val < 8192 := (i 2).isLt
  refine Finset.mem_biUnion.mpr ⟨(⟨(i 0).val, i0⟩, ⟨(i 2).val / 4096, by omega⟩), Finset.mem_univ _, ?_⟩
  rw [wb_set]
  refine Rect.mem_set_unit.mpr fun a => ?_
  fin_cases a
  · show (i 0).val ≤ (i 0).val ∧ (i 0).val < (i 0).val + 1; omega
  · show 0 ≤ (i 1).val ∧ (i 1).val < 0 + 512; omega
  · show 4096 * ((i 2).val / 4096) ≤ (i 2).val ∧ (i 2).val < 4096 * ((i 2).val / 4096) + 4096; omega

/-! ## So a buffer is its pieces -/

variable (c : Dev nD)

/-- A buffer of device `c` held outright and whole. -/
abbrev whole (b : Ref sig .tc) (f : Buf (Elt F) ((c : Thread nD τ).loc b)) : sProp 𝕄 := (c : Thread nD τ).loc b ↦{fullShare} f

theorem oM_chunks (f : Buf (Elt F) ((c : Thread nD τ).loc cc0_stg0_0)) : (whole c cc0_stg0_0 f : sProp 𝕄) = bigSep Finset.univ (fun j : Fin 8 => holds c (oChunk j) f) :=
  pointsTo_blocks (ℓ := (c : Thread nD τ).loc cc0_stg0_0) (fun j : Fin 8 => (oChunk j).view.set) oc_disj oc_cover f
theorem oM_quarts (f : Buf (Elt F) ((c : Thread nD τ).loc cc0_stg0_0)) : (whole c cc0_stg0_0 f : sProp 𝕄) = bigSep Finset.univ (fun b : Fin 4 => holds c (oQuart b) f) :=
  pointsTo_blocks (ℓ := (c : Thread nD τ).loc cc0_stg0_0) (fun b : Fin 4 => (oQuart b).view.set) oq_disj oq_cover f
theorem gaM_rows (f : Buf (Elt F) ((c : Thread nD τ).loc cc0_scratch4)) : (whole c cc0_scratch4 f : sProp 𝕄) = bigSep Finset.univ (fun k : Fin 8 => gaPt c k fullShare f) :=
  pointsTo_blocks (ℓ := (c : Thread nD τ).loc cc0_scratch4) (fun k : Fin 8 => (gaRow k).view.set) ga_disj ga_cover f
theorem gaM_join (f₀ : Buf (Elt F) ((c : Thread nD τ).loc cc0_scratch4)) :
    bigSep Finset.univ (fun k : Fin 8 => iprop(∃ f, gaPt c k fullShare f)) ⊢ (iprop(∃ f, whole c cc0_scratch4 f) : sProp 𝕄) :=
  pointsTo_blocks_join_exists (ℓ := (c : Thread nD τ).loc cc0_scratch4) (fun k : Fin 8 => (gaRow k).view.set) ga_disj ga_cover f₀
theorem xrM_blocks (f : Buf (Elt F) ((c : Thread nD τ).loc cc0_scratch0)) : (whole c cc0_scratch0 f : sProp 𝕄) = bigSep Finset.univ (fun j : Dev nD => xrPt c j f) :=
  pointsTo_blocks (ℓ := (c : Thread nD τ).loc cc0_scratch0) (fun j : Dev nD => (xrBlk j).view.set) xr_disj xr_cover f
theorem xbM_blocks (f : Buf (Elt F) ((c : Thread nD τ).loc cc0_scratch2)) : (whole c cc0_scratch2 f : sProp 𝕄) = bigSep Finset.univ (fun k : Fin 8 => xbPt c k f) :=
  pointsTo_blocks (ℓ := (c : Thread nD τ).loc cc0_scratch2) (fun k : Fin 8 => (xbBlk c k).view.set) (xb_disj c) (xb_cover c) f
theorem xbM_join (f₀ : Buf (Elt F) ((c : Thread nD τ).loc cc0_scratch2)) :
    bigSep Finset.univ (fun k : Fin 8 => iprop(∃ f, xbPt c k f)) ⊢ (iprop(∃ f, whole c cc0_scratch2 f) : sProp 𝕄) :=
  pointsTo_blocks_join_exists (ℓ := (c : Thread nD τ).loc cc0_scratch2) (fun k : Fin 8 => (xbBlk c k).view.set) (xb_disj c) (xb_cover c) f₀
theorem wbM_halves (f : Buf (Elt F) ((c : Thread nD τ).loc cc0_scratch1)) :
    (whole c cc0_scratch1 f : sProp 𝕄) = bigSep Finset.univ (fun p : Fin 2 × Fin 2 => holds c (halfOf p.1 p.2) f) :=
  pointsTo_blocks (ℓ := (c : Thread nD τ).loc cc0_scratch1) (fun p : Fin 2 × Fin 2 => (halfOf p.1 p.2).view.set) wb_disj wb_cover f
theorem wbM_join (f₀ : Buf (Elt F) ((c : Thread nD τ).loc cc0_scratch1)) :
    bigSep Finset.univ (fun p : Fin 2 × Fin 2 => iprop(∃ f : Buf (Elt F) ((c : Thread nD τ).loc cc0_scratch1), holds c (halfOf p.1 p.2) f))
      ⊢ (iprop(∃ f, whole c cc0_scratch1 f) : sProp 𝕄) :=
  pointsTo_blocks_join_exists (ℓ := (c : Thread nD τ).loc cc0_scratch1) (fun p : Fin 2 × Fin 2 => (halfOf p.1 p.2).view.set) wb_disj wb_cover f₀
theorem sgM_slots (f : Buf (Elt F) ((c : Thread nD τ).loc cc0_scratch3)) : (whole c cc0_scratch3 f : sProp 𝕄) = bigSep Finset.univ (fun s : Fin 2 => holds c (slotOf s) f) :=
  pointsTo_blocks (ℓ := (c : Thread nD τ).loc cc0_scratch3) (fun s : Fin 2 => (slotOf s).view.set) sg_disj sg_cover f
theorem sgM_join (f₀ : Buf (Elt F) ((c : Thread nD τ).loc cc0_scratch3)) :
    bigSep Finset.univ (fun s : Fin 2 => iprop(∃ f : Buf (Elt F) ((c : Thread nD τ).loc cc0_scratch3), holds c (slotOf s) f))
      ⊢ (iprop(∃ f, whole c cc0_scratch3 f) : sProp 𝕄) :=
  pointsTo_blocks_join_exists (ℓ := (c : Thread nD τ).loc cc0_scratch3) (fun s : Fin 2 => (slotOf s).view.set) sg_disj sg_cover f₀

end Cert.KernelIdeal.Run

end
-- ==== Proof.Final.lean ====
/-
# The gathered maxima and the last pass over the result

The device's own maximum put in its row, the row shared out among the seven transfers, and the four column
quarters of the result scaled, narrowed and scaled back.
-/
module

public import proofs.«01_k».proof.Proof.Split

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The device's own row -/

/-- Row 0 of the gathered maxima, where the device puts its own. -/
abbrev gaOwn : Memref sig .tc .vmem S1x128 .f32 :=
  gaM.slice (Rect.unit (s := S8x128) ![0, 0] S1x128.size inb_S8x128_S1x128_0_0) (fun _ => rfl)

theorem row_put (c : Dev nD) (f : Buf (Elt F) (gaM.view.loc (c : Thread nD τ))) :
    (holds c gaOwn ((gaM.access (Rect.unit (s := S8x128) ![0, 0] S1x128.size inb_S8x128_S1x128_0_0)).write (Elt F) f
      (shapeCast S1x128 (broadcast S1x128 (mloc m c)) shapeCasts_S1x128_S1x128) Finset.univ) : sProp 𝕄) ⊢ gaPt c 0 fullShare (gaV m c) := by
  rw [shapeCast_self]
  refine Entails.of_eq (pointsTo_congr (write_eq_on gaOwn.view f (gaV m c) (broadcast S1x128 (mloc m c)) fun j => ?_))
  have hj : (j 0).val = 0 := by have h : (j 0).val < 1 := (j 0).isLt; omega
  show mloc m c = mloc m (dn c ⟨(gaOwn.view.emb j 0).val, _⟩)
  have e : (⟨(gaOwn.view.emb j 0).val, (gaOwn.view.emb j 0).isLt⟩ : Fin 8) = 0 := Fin.ext (by
    show 0 + 1 * (j 0).val = 0; omega)
  exact (congrArg (fun d => mloc m (dn c d)) e).trans (congrArg (mloc m) (dn_zero c)) |>.symm

/-- A row shared out among the seven transfers that read it, a rest kept. -/
theorem row_toks (c : Dev nD) (k : Fin 8) (f : Buf (Elt F) (gaM.view.loc (c : Thread nD τ))) :
    (gaPt c k fullShare f : sProp 𝕄) ⊣⊢ iprop(gaPt c k (Transfers.shareDrop fullShare 7) f ∗ gaPt c k (Transfers.shareTokN fullShare (0 : Fin 7).val) f
      ∗ gaPt c k (Transfers.shareTokN fullShare (1 : Fin 7).val) f ∗ gaPt c k (Transfers.shareTokN fullShare (2 : Fin 7).val) f ∗ gaPt c k (Transfers.shareTokN fullShare (3 : Fin 7).val) f
      ∗ gaPt c k (Transfers.shareTokN fullShare (4 : Fin 7).val) f ∗ gaPt c k (Transfers.shareTokN fullShare (5 : Fin 7).val) f ∗ gaPt c k (Transfers.shareTokN fullShare (6 : Fin 7).val) f) := by
  have h := Transfers.pointsTo_toks_range (Ix := Unit) (Val := Elt F) (Name := ℕ) (U := UU) (Lvl := ℕ) (ℓ := (gaRow k).view.loc (c : Thread nD τ)) (S := (gaRow k).view.set) (f := f) fullShare 7
  rw [show (Finset.range 7) = Finset.univ.map ⟨fun i : Fin 7 => i.val, Fin.val_injective⟩ from by decide, bigSep_map, bigSep7] at h
  exact h

/-! ## The result -/

/-- A quarter of the result as it is loaded; -/
abbrev qGet (c : Dev nD) (b : Fin 4) : FVec F S512x2048 .f32 :=
  oM.view.readAt (Elt F) (Rect.unit (s := S512x8192) ![0, 2048 * b.val] S512x2048.size (oQuart_inb b)).toLoadRect (finW m c)
/-- the gathered maxima as they are loaded; -/
abbrev gGet (c : Dev nD) : FVec F S8x128 .f32 :=
  gaM.view.readAt (Elt F) (Rect.unit (s := S8x128) ![0, 0] S8x128.size inb_S8x128_S8x128_0_0).toLoadRect (gaV m c)
/-- the largest of them; -/
abbrev gOf (v : FVec F S8x128 .f32) : F .f32 :=
  Scalar.maximumf (extractAt ![0, 0, 0] (shapeCast S1x1x1 (multiReduction .maximumf [1, 2] S1 (shapeCast S1x8x128 v shapeCasts_S8x128_S1x8x128)
    0xFF800000#32 reduces_S1x8x128_S1 (.inl rfl) rfl) shapeCasts_S1_S1x1x1) inpos_S1x1x1_p0_0_0) (Scalar.ofBits .f32 0x0DA24260#32)
/-- a quarter of the result with `V` stored. -/
abbrev qPut (c : Dev nD) (b : Fin 4) (f : Buf (Elt F) (oM.view.loc (c : Thread nD τ))) (V : FVec F S512x2048 .f32) : sProp 𝕄 :=
  holds c (oQuart b) ((oM.access (Rect.unit (s := S512x8192) ![0, 2048 * b.val] S512x2048.size (oQuart_inb b))).write (Elt F) f V Finset.univ)

theorem g_get (c : Dev nD) : gGet m c = gaV m c :=
  Memref.readAt_unit_zero (Elt F) cc0_scratch4 (by funext a; fin_cases a <;> rfl) _ (gaV m c)

theorem quart_emb (b : Fin 4) (i : S512x2048.Idx) : ((oQuart b).view.emb i : S512x8192.Idx) = blkIx b i := by
  funext a
  refine Fin.ext ?_
  fin_cases a
  · show 0 + 1 * (i 0).val = (i 0).val; omega
  · show 2048 * b.val + 1 * (i 1).val = 2048 * b.val + (i 1).val; omega

theorem q_get (c : Dev nD) (b : Fin 4) : qGet m c b = fun k => finW m c (blkIx b k) :=
  funext fun i => congrArg (finW m c) (quart_emb b i)

theorem outV_blk (c : Dev nD) (b : Fin 4) (i : S512x2048.Idx) :
    outV m c (blkIx b i) = qdq (gmax m c) (fun k => finW m c (blkIx b k)) i := by
  have h1 : (i 1).val < 2048 := (i 1).isLt
  have hb : colBlk (blkIx b i) = b := Fin.ext (by show (2048 * b.val + (i 1).val) / 2048 = b.val; omega)
  have hi : colBlkIx (blkIx b i) = i := by
    funext a
    refine Fin.ext ?_
    fin_cases a
    · rfl
    · show (2048 * b.val + (i 1).val) % 2048 = (i 1).val; omega
  show qdq (gmax m c) (fun k => finW m c (blkIx (colBlk (blkIx b i)) k)) (colBlkIx (blkIx b i)) = _
  rw [hb, hi]

/-- The last pass leaves the result. -/
theorem final_put (c : Dev nD) (b : Fin 4) (f) :
    (qPut c b f (qdq (gOf (gGet m c)) (shapeCast S512x2048 (qGet m c b) shapeCasts_S512x2048_S512x2048)) : sProp 𝕄) ⊢ holds c (oQuart b) (outV m c) := by
  rw [shapeCast_self, q_get, g_get]
  refine Entails.of_eq (pointsTo_congr (write_eq_on (oQuart b).view f (outV m c) _ fun i => ?_))
  exact ((congrArg (outV m c) (quart_emb b i)).trans (outV_blk m c b i)).symm

/-! ## Arrivals -/

theorem credit_ga (o : Fin 2 → ℕ) (h : ∀ a, o a + S1x128.size a ≤ S8x128.size a) :
    (gaM.slice (Rect.unit (s := S8x128) o S1x128.size h) (fun _ => rfl)).view.dmaCredit = NA := by
  unfold View.dmaCredit; rfl

theorem bigSep4 (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

/-- The chunks of the result are its quarters. -/
theorem chunks_quarts (c : Dev nD) (W : Buf (Elt F) (oM.view.loc (c : Thread nD τ))) :
    (oAll c W : sProp 𝕄) ⊢ iprop(holds c (oQuart 0) W ∗ holds c (oQuart 1) W ∗ holds c (oQuart 2) W ∗ holds c (oQuart 3) W) := by
  have h := (oM_chunks (F := F) c W).symm.trans (oM_quarts c W)
  rw [bigSep8, bigSep4] at h
  exact Entails.of_eq h
theorem quarts_whole (c : Dev nD) (W : Buf (Elt F) (oM.view.loc (c : Thread nD τ))) :
    (iprop(holds c (oQuart 0) W ∗ holds c (oQuart 1) W ∗ holds c (oQuart 2) W ∗ holds c (oQuart 3) W) : sProp 𝕄) ⊢ whole c cc0_stg0_0 W := by
  have h := oM_quarts (F := F) c W
  rw [bigSep4] at h
  exact Entails.of_eq h.symm
/-- A buffer held through its whole view is held whole. -/
theorem holds_whole (c : Dev nD) (b : Ref sig .tc) (f : Buf (Elt F) ((c : Thread nD τ).loc b)) :
    (holds c (Memref.whole b) f : sProp 𝕄) = whole c b f := by
  unfold holds whole; simp only [View.set_whole]
/-- The rows of the gathered maxima are the whole. -/
theorem rows_whole (c : Dev nD) (f : Buf (Elt F) (gaM.view.loc (c : Thread nD τ))) :
    (iprop(gaPt c 0 fullShare f ∗ gaPt c 1 fullShare f ∗ gaPt c 2 fullShare f ∗ gaPt c 3 fullShare f ∗ gaPt c 4 fullShare f
      ∗ gaPt c 5 fullShare f ∗ gaPt c 6 fullShare f ∗ gaPt c 7 fullShare f) : sProp 𝕄) ⊢ whole c cc0_scratch4 f := by
  have h := gaM_rows (F := F) c f
  rw [bigSep8] at h
  exact Entails.of_eq h.symm

end Cert.KernelIdeal.Run

end
-- ==== Proof.Tail.lean ====
/-
# The end of the kernel's body

After the product: the waits for the sent blocks of `x`, the exchange of the devices' largest entries, and the
pass that scales the result.
-/
module

public import proofs.«01_k».proof.Proof.Final

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The body from the second wait for the sent blocks on. -/
abbrev tailProg (d0 : Dev nD) (v2 : BitVec 32) (v1170 : F .f32) : Prog (TpuEff nD τ sig (Elt F) Λ₀ .tc) PUnit := do
  let c6 : BitVec 32 ← k0_part43 xA (Memref.isWhole_whole _) wA (Memref.isWhole_whole _) oM (Memref.isWhole_whole _) xrM (Memref.isWhole_whole _) wbM (Memref.isWhole_whole _) xbM (Memref.isWhole_whole _)
    sgM (Memref.isWhole_whole _) gaM (Memref.isWhole_whole _) acM (Memref.isWhole_whole _) cc0_scratch6 cc0_scratch7 cc0_scratch8 cc0_scratch9 cc0_scratch10 cc0_scratch11 d0 v2
  k0_part44 xA (Memref.isWhole_whole _) wA (Memref.isWhole_whole _) oM (Memref.isWhole_whole _) xrM (Memref.isWhole_whole _) wbM (Memref.isWhole_whole _) xbM (Memref.isWhole_whole _)
    sgM (Memref.isWhole_whole _) gaM (Memref.isWhole_whole _) acM (Memref.isWhole_whole _) cc0_scratch6 cc0_scratch7 cc0_scratch8 cc0_scratch9 cc0_scratch10 cc0_scratch11 d0 v2 v1170 c6
  k0_part45 xA (Memref.isWhole_whole _) wA (Memref.isWhole_whole _) oM (Memref.isWhole_whole _) xrM (Memref.isWhole_whole _) wbM (Memref.isWhole_whole _) xbM (Memref.isWhole_whole _)
    sgM (Memref.isWhole_whole _) gaM (Memref.isWhole_whole _) acM (Memref.isWhole_whole _) cc0_scratch6 cc0_scratch7 cc0_scratch8 cc0_scratch9 cc0_scratch10 cc0_scratch11 d0 v2
  let ⟨v1294, c0⟩ : Σ' (v1294 : BitVec 32), BitVec 32 ← k0_part46 xA (Memref.isWhole_whole _) wA (Memref.isWhole_whole _) oM (Memref.isWhole_whole _) xrM (Memref.isWhole_whole _) wbM (Memref.isWhole_whole _) xbM (Memref.isWhole_whole _)
    sgM (Memref.isWhole_whole _) gaM (Memref.isWhole_whole _) acM (Memref.isWhole_whole _) cc0_scratch6 cc0_scratch7 cc0_scratch8 cc0_scratch9 cc0_scratch10 cc0_scratch11 d0 v2
  let v1315 : BitVec 32 ← k0_part47 xA (Memref.isWhole_whole _) wA (Memref.isWhole_whole _) oM (Memref.isWhole_whole _) xrM (Memref.isWhole_whole _) wbM (Memref.isWhole_whole _) xbM (Memref.isWhole_whole _)
    sgM (Memref.isWhole_whole _) gaM (Memref.isWhole_whole _) acM (Memref.isWhole_whole _) cc0_scratch6 cc0_scratch7 cc0_scratch8 cc0_scratch9 cc0_scratch10 cc0_scratch11 d0 v2 v1294 c0
  let v1339 : BitVec 32 ← k0_part48 xA (Memref.isWhole_whole _) wA (Memref.isWhole_whole _) oM (Memref.isWhole_whole _) xrM (Memref.isWhole_whole _) wbM (Memref.isWhole_whole _) xbM (Memref.isWhole_whole _)
    sgM (Memref.isWhole_whole _) gaM (Memref.isWhole_whole _) acM (Memref.isWhole_whole _) cc0_scratch6 cc0_scratch7 cc0_scratch8 cc0_scratch9 cc0_scratch10 cc0_scratch11 v2 v1315
  let v1363 : BitVec 32 ← k0_part49 xA (Memref.isWhole_whole _) wA (Memref.isWhole_whole _) oM (Memref.isWhole_whole _) xrM (Memref.isWhole_whole _) wbM (Memref.isWhole_whole _) xbM (Memref.isWhole_whole _)
    sgM (Memref.isWhole_whole _) gaM (Memref.isWhole_whole _) acM (Memref.isWhole_whole _) cc0_scratch6 cc0_scratch7 cc0_scratch8 cc0_scratch9 cc0_scratch10 cc0_scratch11 v2 v1339
  let ⟨v1391, cst⟩ : Σ' (v1391 : F .f32), F .f32 ← k0_part50 xA (Memref.isWhole_whole _) wA (Memref.isWhole_whole _) oM (Memref.isWhole_whole _) xrM (Memref.isWhole_whole _) wbM (Memref.isWhole_whole _) xbM (Memref.isWhole_whole _)
    sgM (Memref.isWhole_whole _) gaM (Memref.isWhole_whole _) acM (Memref.isWhole_whole _) cc0_scratch6 cc0_scratch7 cc0_scratch8 cc0_scratch9 cc0_scratch10 cc0_scratch11 v2 v1363
  let ⟨v1429, v1430⟩ : Σ' (v1429 : FVec F S512x2048 .f32), FVec F S512x2048 .f32 ← k0_part51 xA (Memref.isWhole_whole _) wA (Memref.isWhole_whole _) oM (Memref.isWhole_whole _) xrM (Memref.isWhole_whole _) wbM (Memref.isWhole_whole _) xbM (Memref.isWhole_whole _)
    sgM (Memref.isWhole_whole _) gaM (Memref.isWhole_whole _) acM (Memref.isWhole_whole _) cc0_scratch6 cc0_scratch7 cc0_scratch8 cc0_scratch9 cc0_scratch10 cc0_scratch11 v1391 cst
  let v1432 : Vec F S512x2048 .f32 ← Prog.lift (.load oM (Rect.unit (s := S512x8192) ![0, 6144] S512x2048.size inb_S512x8192_S512x2048_0_6144).toLoadRect (View.loadsAt_vmem h_S512x2048))
  Prog.lift (.store oM (Rect.unit (s := S512x8192) ![0, 6144] S512x2048.size inb_S512x8192_S512x2048_0_6144) (k0_pay1 v1429 v1430) Finset.univ (View.stores_vmem_bits_univ h_S512x2048 rfl) (.inl rfl))
  pure ⟨⟩

attribute [local irreducible] shapeCast

set_option maxHeartbeats 4000000 in
theorem run_tail (K : Dev nD × CellIx → ℕ) (c : Dev nD) (v2 : BitVec 32) (W : Waits sig Unit) (Q : PUnit → sProp 𝕄) :
    records m K ⊢ levAts L lv -∗ owes (c : Thread nD τ) (oweX c 0) W
      -∗ (waitTok c 0 1 ∗ waitTok c 0 2 ∗ waitTok c 0 3 ∗ waitTok c 0 4 ∗ waitTok c 0 5 ∗ waitTok c 0 6)
      -∗ bigSep Finset.univ (fun k : Fin 7 => sendTok (F := F) c 2 3 k) -∗ bigSep Finset.univ (fun k : Fin 7 => waitTok (F := F) c 3 k)
      -∗ (∃ f, gaPt c 0 fullShare f) -∗ (∃ f, holds c acM f)
      -∗ bigSep Finset.univ (fun k : Fin 7 => iprop(∃ f, gaPt (F := F) (up c (s1 k)) (s1 k) fullShare f))
      -∗ oAll c (finW m c)
      -∗ (iprop(∀ W', owes (c : Thread nD τ) 0 W'
          -∗ ((semVal (xCell c 0 1) 0 ∗ xPay m c 0 1) ∗ (semVal (xCell c 0 2) 0 ∗ xPay m c 0 2) ∗ (semVal (xCell c 0 3) 0 ∗ xPay m c 0 3)
            ∗ (semVal (xCell c 0 4) 0 ∗ xPay m c 0 4) ∗ (semVal (xCell c 0 5) 0 ∗ xPay m c 0 5) ∗ (semVal (xCell c 0 6) 0 ∗ xPay m c 0 6))
          -∗ bigSep Finset.univ (fun k : Fin 7 => semVal (xCell c 2 k) 0) -∗ bigSep Finset.univ (fun k : Fin 7 => semVal (xCell c 3 k) 0)
          -∗ whole c cc0_scratch4 (gaV m c) -∗ (∃ f, holds c acM f) -∗ whole c cc0_stg0_0 (outV m c) -∗ Q ⟨⟩))
      -∗ wp frame (wpE (defs₀ (F := F)) 𝒱₀ (c : Thread nD τ) none) Set.univ (tailProg c v2 (mloc m c)) Q := by
  simp only [bigSep7]
  iintro #HR #HL HO ⟨Hs1, Hs2, Hs3, Hs4, Hs5, Hs6⟩ ⟨Ht0, Ht1, Ht2, Ht3, Ht4, Ht5, Ht6⟩ ⟨Hv0, Hv1, Hv2, Hv3, Hv4, Hv5, Hv6⟩ ⟨%fa, Hga⟩ ⟨%fc, Hac⟩
    ⟨⟨%e0, He0⟩, ⟨%e1, He1⟩, ⟨%e2, He2⟩, ⟨%e3, He3⟩, ⟨%e4, He4⟩, ⟨%e5, He5⟩, ⟨%e6, He6⟩⟩ Ho HQ
  have hs : ∀ k, Above (lv (xCell c 0 k) ()) (oweX c 0) := fun k => by rw [lv_x]; exact (above_oweX c 0).mono (by decide)
  ihave Hga := (Entails.of_eq (show (gaPt c 0 fullShare fa : sProp 𝕄) = holds c gaOwn fa from rfl)) $$ Hga
  sl_exec
  iapply (wp_done m K c 0 1 rfl (credit_xb _ _) (oweX c 0) (hs 1) _) $$ HR HL Hs1 HO
  iintro ⟨HO, Hs1, Hb1⟩
  sl_exec
  iapply (wp_done m K c 0 2 rfl (credit_xb _ _) (oweX c 0) (hs 2) _) $$ HR HL Hs2 HO
  iintro ⟨HO, Hs2, Hb2⟩
  sl_exec
  iapply (wp_done m K c 0 3 rfl (credit_xb _ _) (oweX c 0) (hs 3) _) $$ HR HL Hs3 HO
  iintro ⟨HO, Hs3, Hb3⟩
  sl_exec
  iapply (wp_done m K c 0 4 rfl (credit_xb _ _) (oweX c 0) (hs 4) _) $$ HR HL Hs4 HO
  iintro ⟨HO, Hs4, Hb4⟩
  sl_exec
  iapply (wp_done m K c 0 5 rfl (credit_xb _ _) (oweX c 0) (hs 5) _) $$ HR HL Hs5 HO
  iintro ⟨HO, Hs5, Hb5⟩
  sl_exec
  iapply (wp_done m K c 0 6 rfl (credit_xb _ _) (oweX c 0) (hs 6) _) $$ HR HL Hs6 HO
  iintro ⟨HO, Hs6, Hb6⟩
  sl_exec
  ihave Hga := (row_put m c fa) $$ [Hga]; · iexact Hga
  ihave Hga := (row_toks c 0 (gaV m c)).1 $$ Hga
  icases Hga with ⟨Hgr, Hg0, Hg1, Hg2, Hg3, Hg4, Hg5, Hg6⟩
  iapply (wp_send_a m K c _ 0 (Fin.ext (k0_dev16_eq c)) rfl rfl e0 (O' := oweX c 0) (oweA c 6) rfl) $$ HR Ht0 Hg0 He0 HO
  iintro ⟨HO, Ht0⟩
  sl_exec
  iapply (wp_send_a m K c _ 1 (Fin.ext (k0_dev17_eq c)) rfl rfl e1 (O' := oweA c 6) (oweA c 5) rfl) $$ HR Ht1 Hg1 He1 HO
  iintro ⟨HO, Ht1⟩
  sl_exec
  iapply (wp_send_a m K c _ 2 (Fin.ext (k0_dev18_eq c)) rfl rfl e2 (O' := oweA c 5) (oweA c 4) rfl) $$ HR Ht2 Hg2 He2 HO
  iintro ⟨HO, Ht2⟩
  sl_exec
  iapply (wp_send_a m K c _ 3 (Fin.ext (k0_dev19_eq c)) rfl rfl e3 (O' := oweA c 4) (oweA c 3) rfl) $$ HR Ht3 Hg3 He3 HO
  iintro ⟨HO, Ht3⟩
  sl_exec
  iapply (wp_send_a m K c _ 4 (Fin.ext (k0_dev20_eq c)) rfl rfl e4 (O' := oweA c 3) (oweA c 2) rfl) $$ HR Ht4 Hg4 He4 HO
  iintro ⟨HO, Ht4⟩
  sl_exec
  iapply (wp_send_a m K c _ 5 (Fin.ext (k0_dev21_eq c)) rfl rfl e5 (O' := oweA c 2) (oweA c 1) rfl) $$ HR Ht5 Hg5 He5 HO
  iintro ⟨HO, Ht5⟩
  sl_exec
  iapply (wp_send_a m K c _ 6 (Fin.ext (k0_dev22_eq c)) rfl rfl e6 (O' := oweA c 1) (oweA c 0) rfl) $$ HR Ht6 Hg6 He6 HO
  iintro ⟨HO, Ht6⟩
  sl_exec
  iapply (wp_done m K c 2 0 rfl ((credit_ga _ _).trans amt_2.symm) (oweA c 0) (above_zero _) _) $$ HR HL Ht0 HO
  iintro ⟨HO, Ht0, Hg0⟩
  ihave Hg0 := (Entails.of_eq (show (xPay m c 2 0 : sProp 𝕄) = gaPt c 0 (Transfers.shareTokN fullShare (0 : Fin 7).val) (gaV m c) from rfl)) $$ Hg0
  sl_exec
  iapply (wp_done m K c 3 0 rfl ((credit_ga _ _).trans amt_3.symm) (oweA c 0) (above_zero _) _) $$ HR HL Hv0 HO
  iintro ⟨HO, Hv0, Hr0⟩
  ihave Hr0 := (Entails.of_eq (show (xPay m c 3 0 : sProp 𝕄) = gaPt c 1 fullShare (gaV m c) from rfl)) $$ Hr0
  sl_exec
  iapply (wp_done m K c 2 1 rfl ((credit_ga _ _).trans amt_2.symm) (oweA c 0) (above_zero _) _) $$ HR HL Ht1 HO
  iintro ⟨HO, Ht1, Hg1⟩
  ihave Hg1 := (Entails.of_eq (show (xPay m c 2 1 : sProp 𝕄) = gaPt c 0 (Transfers.shareTokN fullShare (1 : Fin 7).val) (gaV m c) from rfl)) $$ Hg1
  sl_exec
  iapply (wp_done m K c 3 1 rfl ((credit_ga _ _).trans amt_3.symm) (oweA c 0) (above_zero _) _) $$ HR HL Hv1 HO
  iintro ⟨HO, Hv1, Hr1⟩
  ihave Hr1 := (Entails.of_eq (show (xPay m c 3 1 : sProp 𝕄) = gaPt c 2 fullShare (gaV m c) from rfl)) $$ Hr1
  sl_exec
  iapply (wp_done m K c 2 2 rfl ((credit_ga _ _).trans amt_2.symm) (oweA c 0) (above_zero _) _) $$ HR HL Ht2 HO
  iintro ⟨HO, Ht2, Hg2⟩
  ihave Hg2 := (Entails.of_eq (show (xPay m c 2 2 : sProp 𝕄) = gaPt c 0 (Transfers.shareTokN fullShare (2 : Fin 7).val) (gaV m c) from rfl)) $$ Hg2
  sl_exec
  iapply (wp_done m K c 3 2 rfl ((credit_ga _ _).trans amt_3.symm) (oweA c 0) (above_zero _) _) $$ HR HL Hv2 HO
  iintro ⟨HO, Hv2, Hr2⟩
  ihave Hr2 := (Entails.of_eq (show (xPay m c 3 2 : sProp 𝕄) = gaPt c 3 fullShare (gaV m c) from rfl)) $$ Hr2
  sl_exec
  iapply (wp_done m K c 2 3 rfl ((credit_ga _ _).trans amt_2.symm) (oweA c 0) (above_zero _) _) $$ HR HL Ht3 HO
  iintro ⟨HO, Ht3, Hg3⟩
  ihave Hg3 := (Entails.of_eq (show (xPay m c 2 3 : sProp 𝕄) = gaPt c 0 (Transfers.shareTokN fullShare (3 : Fin 7).val) (gaV m c) from rfl)) $$ Hg3
  sl_exec
  iapply (wp_done m K c 3 3 rfl ((credit_ga _ _).trans amt_3.symm) (oweA c 0) (above_zero _) _) $$ HR HL Hv3 HO
  iintro ⟨HO, Hv3, Hr3⟩
  ihave Hr3 := (Entails.of_eq (show (xPay m c 3 3 : sProp 𝕄) = gaPt c 4 fullShare (gaV m c) from rfl)) $$ Hr3
  sl_exec
  iapply (wp_done m K c 2 4 rfl ((credit_ga _ _).trans amt_2.symm) (oweA c 0) (above_zero _) _) $$ HR HL Ht4 HO
  iintro ⟨HO, Ht4, Hg4⟩
  ihave Hg4 := (Entails.of_eq (show (xPay m c 2 4 : sProp 𝕄) = gaPt c 0 (Transfers.shareTokN fullShare (4 : Fin 7).val) (gaV m c) from rfl)) $$ Hg4
  sl_exec
  iapply (wp_done m K c 3 4 rfl ((credit_ga _ _).trans amt_3.symm) (oweA c 0) (above_zero _) _) $$ HR HL Hv4 HO
  iintro ⟨HO, Hv4, Hr4⟩
  ihave Hr4 := (Entails.of_eq (show (xPay m c 3 4 : sProp 𝕄) = gaPt c 5 fullShare (gaV m c) from rfl)) $$ Hr4
  sl_exec
  iapply (wp_done m K c 2 5 rfl ((credit_ga _ _).trans amt_2.symm) (oweA c 0) (above_zero _) _) $$ HR HL Ht5 HO
  iintro ⟨HO, Ht5, Hg5⟩
  ihave Hg5 := (Entails.of_eq (show (xPay m c 2 5 : sProp 𝕄) = gaPt c 0 (Transfers.shareTokN fullShare (5 : Fin 7).val) (gaV m c) from rfl)) $$ Hg5
  sl_exec
  iapply (wp_done m K c 3 5 rfl ((credit_ga _ _).trans amt_3.symm) (oweA c 0) (above_zero _) _) $$ HR HL Hv5 HO
  iintro ⟨HO, Hv5, Hr5⟩
  ihave Hr5 := (Entails.of_eq (show (xPay m c 3 5 : sProp 𝕄) = gaPt c 6 fullShare (gaV m c) from rfl)) $$ Hr5
  sl_exec
  iapply (wp_done m K c 2 6 rfl ((credit_ga _ _).trans amt_2.symm) (oweA c 0) (above_zero _) _) $$ HR HL Ht6 HO
  iintro ⟨HO, Ht6, Hg6⟩
  ihave Hg6 := (Entails.of_eq (show (xPay m c 2 6 : sProp 𝕄) = gaPt c 0 (Transfers.shareTokN fullShare (6 : Fin 7).val) (gaV m c) from rfl)) $$ Hg6
  sl_exec
  iapply (wp_done m K c 3 6 rfl ((credit_ga _ _).trans amt_3.symm) (oweA c 0) (above_zero _) _) $$ HR HL Hv6 HO
  iintro ⟨HO, Hv6, Hr6⟩
  ihave Hr6 := (Entails.of_eq (show (xPay m c 3 6 : sProp 𝕄) = gaPt c 7 fullShare (gaV m c) from rfl)) $$ Hr6
  ihave Hga := (row_toks c 0 (gaV m c)).2 $$ [Hgr Hg0 Hg1 Hg2 Hg3 Hg4 Hg5 Hg6]
  · isplitl [Hgr]; · iexact Hgr
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    iexact Hg6
  ihave Hga := (rows_whole c (gaV m c)) $$ [Hga Hr0 Hr1 Hr2 Hr3 Hr4 Hr5 Hr6]
  · isplitl [Hga]; · iexact Hga
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  ihave Hga := (Entails.of_eq (holds_whole c cc0_scratch4 (gaV m c)).symm) $$ Hga
  ihave Ho := (chunks_quarts c (finW m c)) $$ Ho
  icases Ho with ⟨Ho0, Ho1, Ho2, Ho3⟩
  sl_exec
  ihave Ho0 := (final_put m c 0 _) $$ [Ho0]; · iexact Ho0
  ihave Ho1 := (final_put m c 1 _) $$ [Ho1]; · iexact Ho1
  ihave Ho2 := (final_put m c 2 _) $$ [Ho2]; · iexact Ho2
  ihave Ho3 := (final_put m c 3 _) $$ [Ho3]; · iexact Ho3
  ihave Ho := (quarts_whole c (outV m c)) $$ [Ho0 Ho1 Ho2 Ho3]
  · isplitl [Ho0]; · iexact Ho0
    isplitl [Ho1]; · iexact Ho1
    isplitl [Ho2]; · iexact Ho2
    iexact Ho3
  ihave Hga := (Entails.of_eq (holds_whole c cc0_scratch4 (gaV m c))) $$ Hga
  rw [wp_ret]
  imodintro
  ihave HO := (Entails.of_eq (congrArg (fun O => (owes (c : Thread nD τ) O _ : sProp 𝕄)) (show oweA c 0 = 0 from rfl))) $$ HO
  iapply HQ $$ %_ HO [Hs1 Hb1 Hs2 Hb2 Hs3 Hb3 Hs4 Hb4 Hs5 Hb5 Hs6 Hb6] [Ht0 Ht1 Ht2 Ht3 Ht4 Ht5 Ht6] [Hv0 Hv1 Hv2 Hv3 Hv4 Hv5 Hv6] Hga [Hac] Ho
  · isplitl [Hs1 Hb1]
    · isplitl [Hs1]; · iexact Hs1
      iexact Hb1
    isplitl [Hs2 Hb2]
    · isplitl [Hs2]; · iexact Hs2
      iexact Hb2
    isplitl [Hs3 Hb3]
    · isplitl [Hs3]; · iexact Hs3
      iexact Hb3
    isplitl [Hs4 Hb4]
    · isplitl [Hs4]; · iexact Hs4
      iexact Hb4
    isplitl [Hs5 Hb5]
    · isplitl [Hs5]; · iexact Hs5
      iexact Hb5
    isplitl [Hs6]; · iexact Hs6
    iexact Hb6
  · isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    iexact Ht6
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  · iexists _; iexact Hac

/-- The same for a value known to be the device's largest entry. -/
theorem run_tail_at (K : Dev nD × CellIx → ℕ) (c : Dev nD) (v2 : BitVec 32) (W : Waits sig Unit) (v : F .f32) (hv : v = mloc m c) (Q : PUnit → sProp 𝕄) :
    records m K ⊢ levAts L lv -∗ owes (c : Thread nD τ) (oweX c 0) W
      -∗ (waitTok c 0 1 ∗ waitTok c 0 2 ∗ waitTok c 0 3 ∗ waitTok c 0 4 ∗ waitTok c 0 5 ∗ waitTok c 0 6)
      -∗ bigSep Finset.univ (fun k : Fin 7 => sendTok (F := F) c 2 3 k) -∗ bigSep Finset.univ (fun k : Fin 7 => waitTok (F := F) c 3 k)
      -∗ (∃ f, gaPt c 0 fullShare f) -∗ (∃ f, holds c acM f)
      -∗ bigSep Finset.univ (fun k : Fin 7 => iprop(∃ f, gaPt (F := F) (up c (s1 k)) (s1 k) fullShare f))
      -∗ oAll c (finW m c)
      -∗ (iprop(∀ W', owes (c : Thread nD τ) 0 W'
          -∗ ((semVal (xCell c 0 1) 0 ∗ xPay m c 0 1) ∗ (semVal (xCell c 0 2) 0 ∗ xPay m c 0 2) ∗ (semVal (xCell c 0 3) 0 ∗ xPay m c 0 3)
            ∗ (semVal (xCell c 0 4) 0 ∗ xPay m c 0 4) ∗ (semVal (xCell c 0 5) 0 ∗ xPay m c 0 5) ∗ (semVal (xCell c 0 6) 0 ∗ xPay m c 0 6))
          -∗ bigSep Finset.univ (fun k : Fin 7 => semVal (xCell c 2 k) 0) -∗ bigSep Finset.univ (fun k : Fin 7 => semVal (xCell c 3 k) 0)
          -∗ whole c cc0_scratch4 (gaV m c) -∗ (∃ f, holds c acM f) -∗ whole c cc0_stg0_0 (outV m c) -∗ Q ⟨⟩))
      -∗ wp frame (wpE (defs₀ (F := F)) 𝒱₀ (c : Thread nD τ) none) Set.univ (tailProg c v2 v) Q := by
  subst hv; exact run_tail m K c v2 W Q

end Cert.KernelIdeal.Run

end
-- ==== Proof.Body.lean ====
/-
# The kernel's body on one device

From the pieces a device holds at entry to those it holds at the end, with its rows of the result in place:
the barrier, the exchange of the blocks of `x`, the eight steps of the product, then the end of the body.
-/
module

public import proofs.«01_k».proof.Proof.Entry
public import proofs.«01_k».proof.Proof.Tail

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The rights to pay the other devices' barriers. -/
def sigToks (c : Dev nD) : sProp 𝕄 := bigSep Finset.univ (fun p : Dev nD => sigTok c p)

/-- The right to wait for the landing of transfer `k` of a family, and the protocol's pieces of a device. -/
def protoIn (c : Dev nD) : sProp 𝕄 :=
  iprop(sigToks c ∗ cred (tallyAt (barCell c) () 7) ∗ atPos ER (barCell c) 0 ∅ 0
    ∗ bigSep Finset.univ (fun k : Fin 7 => sendTok (F := F) c 0 1 k) ∗ bigSep Finset.univ (fun k : Fin 7 => waitTok (F := F) c 1 k)
    ∗ bigSep Finset.univ (fun k : Fin 7 => sendTok (F := F) c 2 3 k) ∗ bigSep Finset.univ (fun k : Fin 7 => waitTok (F := F) c 3 k))

/-- The semaphores of the device's own copies, at zero. -/
def ownZero (c : Dev nD) : sProp 𝕄 :=
  iprop(semVal (dCell c 33) 0 ∗ semVal (dCell c 34) 0 ∗ semVal (dCell c 37) 0 ∗ semVal (dCell c 38) 0 ∗ semVal (dCell c 41) 0 ∗ semVal (dCell c 42) 0)

def argsLent (c : Dev nD) : sProp 𝕄 :=
  iprop(lent c xA 41 (xIn m c) ∗ lent c xA 42 (xIn m c)
    ∗ lent c wA 33 (wIn m c) ∗ lent c wA 34 (wIn m c) ∗ lent c wA 37 (wIn m c) ∗ lent c wA 38 (wIn m c))

/-- What a device holds at the end. -/
def bodyOut (c : Dev nD) : sProp 𝕄 :=
  iprop(semVal (barCell c) 0 ∗ bigSep Finset.univ (fun k : Fin 7 => semVal (xCell c 0 k) 0) ∗ bigSep Finset.univ (fun k : Fin 7 => semVal (xCell c 1 k) 0)
    ∗ bigSep Finset.univ (fun k : Fin 7 => semVal (xCell c 2 k) 0) ∗ bigSep Finset.univ (fun k : Fin 7 => semVal (xCell c 3 k) 0)
    ∗ ownZero c ∗ argsLent m c
    ∗ bigSep Finset.univ (fun d : Fin 8 => holds c (xrLd c d) (xrV m c))
    ∗ bigSep Finset.univ (fun k : Fin 7 => xPay m c 0 k)
    ∗ bigSep Finset.univ (fun s : Fin 2 => iprop(∃ f, holds (F := F) c (sgSlot s) f))
    ∗ (∃ f, holds c (wbHalf 0 0) f) ∗ (∃ f, holds c (wbHalf 0 1) f) ∗ (∃ f, holds c (wbHalf 1 0) f) ∗ (∃ f, holds c (wbHalf 1 1) f)
    ∗ whole c cc0_scratch4 (gaV m c) ∗ (∃ f, holds c acM f) ∗ whole c cc0_stg0_0 (outV m c))

attribute [local irreducible] shapeCast

set_option maxHeartbeats 4000000 in
theorem run_body (K : Dev nD × CellIx → ℕ) (c : Dev nD) (W : Waits sig Unit) (Q : PUnit → sProp 𝕄) :
    records m K ⊢ levAts L lv -∗ protoIn c -∗ owes (c : Thread nD τ) (O₀ c) W -∗ ownZero c -∗ argsLent m c
      -∗ (∃ f, holds c (xrOwn c) f) -∗ bigSep Finset.univ (fun k : Fin 7 => iprop(∃ f, holds (F := F) c (xbSt c k) f))
      -∗ bigSep Finset.univ (fun s : Fin 2 => iprop(∃ f, holds (F := F) c (sgSlot s) f))
      -∗ (∃ f, holds c (wbHalf 0 0) f) -∗ (∃ f, holds c (wbHalf 0 1) f) -∗ (∃ f, holds c (wbHalf 1 0) f) -∗ (∃ f, holds c (wbHalf 1 1) f)
      -∗ (∃ f, gaPt c 0 fullShare f) -∗ (∃ f, holds c acM f)
      -∗ bigSep Finset.univ (fun j : Fin 8 => iprop(∃ f, holds (F := F) c (oChunk j) f))
      -∗ (iprop(∀ W', owes (c : Thread nD τ) 0 W' -∗ bodyOut m c -∗ Q ⟨⟩))
      -∗ wp frame (wpE (defs₀ (F := F)) 𝒱₀ (c : Thread nD τ) none) Set.univ
        (cc0_body xA (Memref.isWhole_whole _) wA (Memref.isWhole_whole _) oM (Memref.isWhole_whole _) xrM (Memref.isWhole_whole _)
          wbM (Memref.isWhole_whole _) xbM (Memref.isWhole_whole _) sgM (Memref.isWhole_whole _) gaM (Memref.isWhole_whole _) acM (Memref.isWhole_whole _)
          cc0_scratch6 cc0_scratch7 cc0_scratch8 cc0_scratch9 cc0_scratch10 cc0_scratch11) Q := by
  rw [cc0_body_eq_skeleton]; unfold cc0_body_skel
  unfold protoIn ownZero argsLent
  simp only [bigSep8, bigSep7, bigSep2]
  unfold sigToks
  iintro #HR #HL ⟨Hsig, Hcb, Hab, ⟨Hs0, Hs1, Hs2, Hs3, Hs4, Hs5, Hs6⟩, ⟨Hw0, Hw1, Hw2, Hw3, Hw4, Hw5, Hw6⟩,
    ⟨Ht0, Ht1, Ht2, Ht3, Ht4, Ht5, Ht6⟩, ⟨Hv0, Hv1, Hv2, Hv3, Hv4, Hv5, Hv6⟩⟩ HO ⟨Hz33, Hz34, Hz37, Hz38, Hz41, Hz42⟩
    ⟨Hx41, Hx42, Hw33, Hw34, Hw37, Hw38⟩ ⟨%fr, Hxr⟩
    ⟨⟨%fb1, Hxb1⟩, ⟨%fb2, Hxb2⟩, ⟨%fb3, Hxb3⟩, ⟨%fb4, Hxb4⟩, ⟨%fb5, Hxb5⟩, ⟨%fb6, Hxb6⟩, ⟨%fb7, Hxb7⟩⟩
    ⟨⟨%fg0, Hsg0⟩, ⟨%fg1, Hsg1⟩⟩ ⟨%fw00, Hwb00⟩ ⟨%fw01, Hwb01⟩ ⟨%fw10, Hwb10⟩ ⟨%fw11, Hwb11⟩ ⟨%fa, Hga⟩ ⟨%fc, Hac⟩
    ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩ HQ
  rw [wp_bind]
  iapply (entry m K c W) $$ HR HL Hsig Hcb Hab HO
  rw [bars, bigSep7]
  iintro ⟨HO, Hzb, ⟨⟨%g0, Hd0⟩, ⟨%e0, He0⟩⟩, ⟨⟨%g1, Hd1⟩, ⟨%e1, He1⟩⟩, ⟨⟨%g2, Hd2⟩, ⟨%e2, He2⟩⟩, ⟨⟨%g3, Hd3⟩, ⟨%e3, He3⟩⟩,
    ⟨⟨%g4, Hd4⟩, ⟨%e4, He4⟩⟩, ⟨⟨%g5, Hd5⟩, ⟨%e5, He5⟩⟩, ⟨⟨%g6, Hd6⟩, ⟨%e6, He6⟩⟩⟩
  have hmw : ∀ (k : ℕ) (hk : k < 43) (hn : ¬ IsX k) (O : CellTallies nD τ sig Unit), Above 0 O →
      (levAts L lv : sProp 𝕄) ⊢ MayWait (U := UU) (c : Thread nD τ) (.dma ⟨k, hk⟩) () O := fun k hk hn O hO => mayWait0 c ⟨k, hk⟩ O hn hO
  have hmw41 : ∀ j, (levAts L lv : sProp 𝕄) ⊢ MayWait (U := UU) (c : Thread nD τ) (.dma ⟨41, by decide⟩) () (oweX c j) :=
    fun j => mayWait0 c ⟨41, by decide⟩ _ (by decide) ((above_oweX c j).mono (by decide))
  have hmw42 : ∀ j, (levAts L lv : sProp 𝕄) ⊢ MayWait (U := UU) (c : Thread nD τ) (.dma ⟨42, by decide⟩) () (oweX c j) :=
    fun j => mayWait0 c ⟨42, by decide⟩ _ (by decide) ((above_oweX c j).mono (by decide))
  have hmw33 : ∀ j, (levAts L lv : sProp 𝕄) ⊢ MayWait (U := UU) (c : Thread nD τ) (.dma ⟨33, by decide⟩) () (oweX c j) :=
    fun j => mayWait0 c ⟨33, by decide⟩ _ (by decide) ((above_oweX c j).mono (by decide))
  have hmw34 : ∀ j, (levAts L lv : sProp 𝕄) ⊢ MayWait (U := UU) (c : Thread nD τ) (.dma ⟨34, by decide⟩) () (oweX c j) :=
    fun j => mayWait0 c ⟨34, by decide⟩ _ (by decide) ((above_oweX c j).mono (by decide))
  have hmw37 : ∀ j, (levAts L lv : sProp 𝕄) ⊢ MayWait (U := UU) (c : Thread nD τ) (.dma ⟨37, by decide⟩) () (oweX c j) :=
    fun j => mayWait0 c ⟨37, by decide⟩ _ (by decide) ((above_oweX c j).mono (by decide))
  have hmw38 : ∀ j, (levAts L lv : sProp 𝕄) ⊢ MayWait (U := UU) (c : Thread nD τ) (.dma ⟨38, by decide⟩) () (oweX c j) :=
    fun j => mayWait0 c ⟨38, by decide⟩ _ (by decide) ((above_oweX c j).mono (by decide))
  sl_exec
  ihave Hxb1 := (store_x m c 0 ![0, 0, 0] inb_S2x512x512_S1x512x512_0_0_0 _ fb1) $$ [Hxb1]; · iexact Hxb1
  iapply (wp_send_x m K c _ 0 (Fin.ext (k0_dev9_eq c)) rfl rfl g0 (O' := oweX c 7) (oweX c 6) rfl) $$ HR Hs0 Hxb1 Hd0 HO
  iintro ⟨HO, Hs0⟩
  sl_exec
  ihave Hxb2 := (store_x m c 1 ![1, 0, 0] inb_S2x512x512_S1x512x512_1_0_0 _ fb2) $$ [Hxb2]; · iexact Hxb2
  iapply (wp_send_x m K c _ 1 (Fin.ext (k0_dev10_eq c)) rfl rfl g1 (O' := oweX c 6) (oweX c 5) rfl) $$ HR Hs1 Hxb2 Hd1 HO
  iintro ⟨HO, Hs1⟩
  sl_exec
  ihave Hxb3 := (store_x m c 2 ![0, 0, 0] inb_S2x512x512_S1x512x512_0_0_0 _ fb3) $$ [Hxb3]; · iexact Hxb3
  iapply (wp_send_x m K c _ 2 (Fin.ext (k0_dev11_eq c)) rfl rfl g2 (O' := oweX c 5) (oweX c 4) rfl) $$ HR Hs2 Hxb3 Hd2 HO
  iintro ⟨HO, Hs2⟩
  sl_exec
  ihave Hxb4 := (store_x m c 3 ![1, 0, 0] inb_S2x512x512_S1x512x512_1_0_0 _ fb4) $$ [Hxb4]; · iexact Hxb4
  iapply (wp_send_x m K c _ 3 (Fin.ext (k0_dev12_eq c)) rfl rfl g3 (O' := oweX c 4) (oweX c 3) rfl) $$ HR Hs3 Hxb4 Hd3 HO
  iintro ⟨HO, Hs3⟩
  sl_exec
  ihave Hxb5 := (store_x m c 4 ![0, 0, 0] inb_S2x512x512_S1x512x512_0_0_0 _ fb5) $$ [Hxb5]; · iexact Hxb5
  iapply (wp_send_x m K c _ 4 (Fin.ext (k0_dev13_eq c)) rfl rfl g4 (O' := oweX c 3) (oweX c 2) rfl) $$ HR Hs4 Hxb5 Hd4 HO
  iintro ⟨HO, Hs4⟩
  sl_exec
  ihave Hxb6 := (store_x m c 5 ![1, 0, 0] inb_S2x512x512_S1x512x512_1_0_0 _ fb6) $$ [Hxb6]; · iexact Hxb6
  iapply (wp_send_x m K c _ 5 (Fin.ext (k0_dev14_eq c)) rfl rfl g5 (O' := oweX c 2) (oweX c 1) rfl) $$ HR Hs5 Hxb6 Hd5 HO
  iintro ⟨HO, Hs5⟩
  sl_exec
  ihave Hxb7 := (store_x m c 6 ![0, 0, 0] inb_S2x512x512_S1x512x512_0_0_0 _ fb7) $$ [Hxb7]; · iexact Hxb7
  iapply (wp_send_x m K c _ 6 (Fin.ext (k0_dev15_eq c)) rfl rfl g6 (O' := oweX c 1) (oweX c 0) rfl) $$ HR Hs6 Hxb7 Hd6 HO
  iintro ⟨HO, Hs6⟩
  sl_exec
  ihave Hxr := (store_own m c ![1, 0, 0] inb_S2x512x512_S1x512x512_1_0_0 _ fr) $$ [Hxr]; · iexact Hxr
  ihave Hxr := (Entails.of_eq (xr_ld c c 0 (dn_zero c).symm (xrV m c))) $$ Hxr
  sl_exec
  ihave Ho := (stage_first m c 0 fo0 fo1 fo2 fo3 fo4 fo5 fo6 fo7 _ _ _ _)
    $$ [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  icases Ho with ⟨Ho0, Ho1, Ho2, Ho3, Ho4, Ho5, Ho6, Ho7⟩
  iapply (wp_done m K c 1 0 rfl (credit_xr _ _) (oweX c 0) (above_recv c 0) _) $$ HR HL Hw0 HO
  iintro ⟨HO, Hw0, Hx1⟩
  ihave Hx1 := (Entails.of_eq (recv_ld m c 0 1 rfl)) $$ Hx1
  sl_exec
  ihave Ho := (stage_next m c 1 _ _ _ _ _ _ _ _ _ _ _ _ 0 1 rfl)
    $$ [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  icases Ho with ⟨Ho0, Ho1, Ho2, Ho3, Ho4, Ho5, Ho6, Ho7⟩
  iapply (wp_done m K c 1 1 rfl (credit_xr _ _) (oweX c 0) (above_recv c 1) _) $$ HR HL Hw1 HO
  iintro ⟨HO, Hw1, Hx2⟩
  ihave Hx2 := (Entails.of_eq (recv_ld m c 1 2 rfl)) $$ Hx2
  sl_exec
  ihave Ho := (stage_next m c 0 _ _ _ _ _ _ _ _ _ _ _ _ 1 2 rfl)
    $$ [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  icases Ho with ⟨Ho0, Ho1, Ho2, Ho3, Ho4, Ho5, Ho6, Ho7⟩
  iapply (wp_done m K c 1 2 rfl (credit_xr _ _) (oweX c 0) (above_recv c 2) _) $$ HR HL Hw2 HO
  iintro ⟨HO, Hw2, Hx3⟩
  ihave Hx3 := (Entails.of_eq (recv_ld m c 2 3 rfl)) $$ Hx3
  sl_exec
  ihave Ho := (stage_next m c 1 _ _ _ _ _ _ _ _ _ _ _ _ 2 3 rfl)
    $$ [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  icases Ho with ⟨Ho0, Ho1, Ho2, Ho3, Ho4, Ho5, Ho6, Ho7⟩
  iapply (wp_done m K c 1 3 rfl (credit_xr _ _) (oweX c 0) (above_recv c 3) _) $$ HR HL Hw3 HO
  iintro ⟨HO, Hw3, Hx4⟩
  ihave Hx4 := (Entails.of_eq (recv_ld m c 3 4 rfl)) $$ Hx4
  sl_exec
  ihave Ho := (stage_next m c 0 _ _ _ _ _ _ _ _ _ _ _ _ 3 4 rfl)
    $$ [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  icases Ho with ⟨Ho0, Ho1, Ho2, Ho3, Ho4, Ho5, Ho6, Ho7⟩
  iapply (wp_done m K c 1 4 rfl (credit_xr _ _) (oweX c 0) (above_recv c 4) _) $$ HR HL Hw4 HO
  iintro ⟨HO, Hw4, Hx5⟩
  ihave Hx5 := (Entails.of_eq (recv_ld m c 4 5 rfl)) $$ Hx5
  sl_exec
  ihave Ho := (stage_next m c 1 _ _ _ _ _ _ _ _ _ _ _ _ 4 5 rfl)
    $$ [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  icases Ho with ⟨Ho0, Ho1, Ho2, Ho3, Ho4, Ho5, Ho6, Ho7⟩
  iapply (wp_done m K c 1 5 rfl (credit_xr _ _) (oweX c 0) (above_recv c 5) _) $$ HR HL Hw5 HO
  iintro ⟨HO, Hw5, Hx6⟩
  ihave Hx6 := (Entails.of_eq (recv_ld m c 5 6 rfl)) $$ Hx6
  sl_exec
  ihave Ho := (stage_next m c 0 _ _ _ _ _ _ _ _ _ _ _ _ 5 6 rfl)
    $$ [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  icases Ho with ⟨Ho0, Ho1, Ho2, Ho3, Ho4, Ho5, Ho6, Ho7⟩
  iapply (wp_done m K c 1 6 rfl (credit_xr _ _) (oweX c 0) (above_recv c 6) _) $$ HR HL Hw6 HO
  iintro ⟨HO, Hw6, Hx7⟩
  ihave Hx7 := (Entails.of_eq (recv_ld m c 6 7 rfl)) $$ Hx7
  sl_exec
  ihave Ho := (stage_last m c 1 _ _ _ _ _ _ _ _ _ _ _ _)
    $$ [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  icases Ho with ⟨Ho0, Ho1, Ho2, Ho3, Ho4, Ho5, Ho6, Ho7⟩
  iapply (wp_done m K c 0 0 rfl (credit_xb _ _) (oweX c 0) (by rw [lv_x]; exact (above_oweX c 0).mono (by decide)) _) $$ HR HL Hs0 HO
  iintro ⟨HO, Hs0, Hb0⟩
  rw [Prog.pure_eq_ret, wp_ret]
  imodintro
  iapply (run_tail_at m K c _ _ _ (mloc_eq m c 1 _ _ _ _) Q) $$ HR HL HO [Hs1 Hs2 Hs3 Hs4 Hs5 Hs6] [Ht0 Ht1 Ht2 Ht3 Ht4 Ht5 Ht6] [Hv0 Hv1 Hv2 Hv3 Hv4 Hv5 Hv6]
    [Hga] [Hac] [He0 He1 He2 He3 He4 He5 He6] [Ho0 Ho1 Ho2 Ho3 Ho4 Ho5 Ho6 Ho7]
  · isplitl [Hs1]; · iexact Hs1
    isplitl [Hs2]; · iexact Hs2
    isplitl [Hs3]; · iexact Hs3
    isplitl [Hs4]; · iexact Hs4
    isplitl [Hs5]; · iexact Hs5
    iexact Hs6
  · rw [bigSep7]
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    iexact Ht6
  · rw [bigSep7]
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  · iexists _; iexact Hga
  · iexists _; iexact Hac
  · rw [bigSep7]
    isplitl [He0]; · iexists _; iexact He0
    isplitl [He1]; · iexists _; iexact He1
    isplitl [He2]; · iexists _; iexact He2
    isplitl [He3]; · iexists _; iexact He3
    isplitl [He4]; · iexists _; iexact He4
    isplitl [He5]; · iexists _; iexact He5
    iexists _; iexact He6
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  iintro %W' HO ⟨⟨Hs1, Hb1⟩, ⟨Hs2, Hb2⟩, ⟨Hs3, Hb3⟩, ⟨Hs4, Hb4⟩, ⟨Hs5, Hb5⟩, ⟨Hs6, Hb6⟩⟩ Ht Hv Hga Hac Ho
  iapply HQ $$ HO
  unfold bodyOut ownZero argsLent
  simp only [bigSep8, bigSep7, bigSep2]
  isplitl [Hzb]; · iexact Hzb
  isplitl [Hs0 Hs1 Hs2 Hs3 Hs4 Hs5 Hs6]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  isplitl [Hw0 Hw1 Hw2 Hw3 Hw4 Hw5 Hw6]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    iexact Hw6
  isplitl [Ht]; · iexact Ht
  isplitl [Hv]; · iexact Hv
  isplitl [Hz33 Hz34 Hz37 Hz38 Hz41 Hz42]
  · isplitl [Hz33]; · iexact Hz33
    isplitl [Hz34]; · iexact Hz34
    isplitl [Hz37]; · iexact Hz37
    isplitl [Hz38]; · iexact Hz38
    isplitl [Hz41]; · iexact Hz41
    iexact Hz42
  isplitl [Hx41 Hx42 Hw33 Hw34 Hw37 Hw38]
  · isplitl [Hx41]; · iexact Hx41
    isplitl [Hx42]; · iexact Hx42
    isplitl [Hw33]; · iexact Hw33
    isplitl [Hw34]; · iexact Hw34
    isplitl [Hw37]; · iexact Hw37
    iexact Hw38
  isplitl [Hxr Hx1 Hx2 Hx3 Hx4 Hx5 Hx6 Hx7]
  · isplitl [Hxr]; · iexact Hxr
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [Hb0 Hb1 Hb2 Hb3 Hb4 Hb5 Hb6]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hb6
  isplitl [Hsg0 Hsg1]
  · isplitl [Hsg0]; · iexists _; iexact Hsg0
    iexists _; iexact Hsg1
  isplitl [Hwb00]; · iexists _; iexact Hwb00
  isplitl [Hwb01]; · iexists _; iexact Hwb01
  isplitl [Hwb10]; · iexists _; iexact Hwb10
  isplitl [Hwb11]; · iexists _; iexact Hwb11
  isplitl [Hga]; · iexact Hga
  isplitl [Hac]; · iexact Hac
  iexact Ho

end Cert.KernelIdeal.Run

end
-- ==== Proof.Deal.lean ====
/-
# The protocol's launch

The kernel's semaphores listed, the invariants of all the protocol's semaphores allocated at once, the rights to
pay dealt to the devices that pay, and the credit the launch deals each device for what the others owe it.
-/
module

public import proofs.«01_k».proof.Proof.Body

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's own semaphores -/

/-- The semaphores of the local copies, and those the kernel declares and never uses. -/
abbrev localSem : Fin 6 → DmaSem sig
  | 0 => (33 : Fin 43) | 1 => (34 : Fin 43) | 2 => (37 : Fin 43) | 3 => (38 : Fin 43) | 4 => (41 : Fin 43) | 5 => (42 : Fin 43)
abbrev spareSem : Fin 8 → DmaSem sig
  | 0 => (1 : Fin 43) | 1 => (9 : Fin 43) | 2 => (17 : Fin 43) | 3 => (25 : Fin 43)
  | 4 => (35 : Fin 43) | 5 => (36 : Fin 43) | 6 => (39 : Fin 43) | 7 => (40 : Fin 43)
abbrev SemIx : Type := (Fin 4 × Fin 7) ⊕ (Fin 6 ⊕ Fin 8)
abbrev osem : SemIx → SemLoc sig
  | .inl q => .dma (xSem q.1 q.2)
  | .inr (.inl i) => .dma (localSem i)
  | .inr (.inr i) => .dma (spareSem i)

/-- The number of a semaphore of the kernel's own. -/
def numAt : SemIx → ℕ
  | .inl q => 2 + 8 * q.1.val + q.2.val
  | .inr (.inl i) => (localSem i).val
  | .inr (.inr i) => (spareSem i).val
theorem osem_num (q : SemIx) : ∃ h : numAt q < 43, osem q = .dma ⟨numAt q, h⟩ := by
  rcases q with q | i | i
  · exact ⟨(xSem q.1 q.2).isLt, rfl⟩
  · exact ⟨(localSem i).isLt, rfl⟩
  · exact ⟨(spareSem i).isLt, rfl⟩
theorem numAt_inj : ∀ a b : SemIx, numAt a = numAt b → a = b := by decide +kernel
theorem numAt_pos : ∀ a : SemIx, numAt a ≠ 0 := by decide +kernel
theorem dma_scoped : ∀ n : Fin 43, (SemLoc.dma n : SemLoc sig).isScoped .tc = true := by decide +kernel
theorem stage_num : ∀ w s, ((cfg0.spec w).sem s : Fin 43).val = 0 := by decide +kernel

theorem ownSemFacts : Pipeline.OwnSemFacts cfg0.spec osem where
  isScoped q := by obtain ⟨h, e⟩ := osem_num q; rw [e]; exact dma_scoped ⟨_, h⟩
  inj a b hab := by
    obtain ⟨ha, ea⟩ := osem_num a
    obtain ⟨hb, eb⟩ := osem_num b
    rw [ea, eb] at hab
    exact numAt_inj a b (congrArg (fun s : Fin 43 => s.val) (SemLoc.dma.inj hab))
  disj q w s hq := by
    obtain ⟨h, e⟩ := osem_num q
    rw [e] at hq
    have := congrArg (fun s : Fin 43 => s.val) (SemLoc.dma.inj hq)
    exact numAt_pos q (this.trans (stage_num w s))

/-- The unused semaphores at zero. -/
def spare (c : Dev nD) : sProp 𝕄 := bigSep Finset.univ fun i : Fin 8 => semVal ((c : Thread nD τ), SemLoc.dma (spareSem i)) 0

theorem bigSep6 (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]; rfl

theorem ownSems0_eq (c : Dev nD) : (Pipeline.ownSems0 (Ix := Unit) (Name := ℕ) (U := UU) (Lvl := ℕ) (Val := Elt F) (τ := τ) osem c : sProp 𝕄)
    = iprop(bigSep Finset.univ (fun q : Fin 4 × Fin 7 => semVal (xCell c q.1 q.2) 0) ∗ ownZero c ∗ spare c) := by
  unfold Pipeline.ownSems0
  rw [bigSep_univ_sum, bigSep_univ_sum]
  refine congrArg₂ _ rfl (congrArg₂ _ ?_ rfl)
  rw [bigSep6]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- An assertion over the protocol's cells is the barrier's and the transfers'. -/
theorem bigSep_cellIx (Φ : CellIx → sProp 𝕄) :
    bigSep Finset.univ Φ = iprop(Φ none ∗ bigSep Finset.univ (fun q : Fin 4 × Fin 7 => Φ (some q))) := by
  rw [show (Finset.univ : Finset CellIx) = insert none (Finset.univ.map ⟨some, Option.some_injective _⟩) from by decide,
    bigSep_insert (by decide), bigSep_map]
  rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CellIx => semVal (kcell (c, k)) 0) ∗ ownZero c ∗ spare c) : sProp 𝕄) := by
  rw [ownSems0_eq, unscopedSems0_eq, bigSep_cellIx]
  iintro ⟨⟨HX, HZ, HS⟩, HB⟩
  isplitl [HX HB]
  · isplitl [HB]; · iexact HB
    iexact HX
  isplitl [HZ] <;> iassumption

/-! ## Cells and tokens -/

theorem xCell_eq_iff {c c' : Dev nD} {t t' : Fin 4} {k k' : Fin 7} : xCell c t k = xCell c' t' k' ↔ c = c' ∧ t = t' ∧ k = k' := by
  constructor
  · intro h
    have h1 : c = c' := congrArg (fun g : GSem nD τ sig => g.1.1) h
    have h2 : xSem t k = xSem t' k' := by
      have := congrArg Prod.snd h; exact SemLoc.dma.inj this
    have h3 : 2 + 8 * t.val + k.val = 2 + 8 * t'.val + k'.val := congrArg (fun s : Fin 43 => s.val) h2
    have := k.isLt; have := k'.isLt
    exact ⟨h1, Fin.ext (by omega), Fin.ext (by omega)⟩
  · rintro ⟨rfl, rfl, rfl⟩; rfl

theorem xCell_ne_bar (c c' : Dev nD) (t k) : xCell c t k ≠ barCell c' := fun h => by
  have h' : (SemLoc.dma (xSem t k) : SemLoc sig) = .reg barS := congrArg Prod.snd h
  cases h'

theorem barCell_eq_iff {c c' : Dev nD} : barCell c = barCell c' ↔ c = c' :=
  ⟨fun h => congrArg (fun g : GSem nD τ sig => g.1.1) h, fun h => h ▸ rfl⟩

theorem kcell_injective : Function.Injective kcell := by
  rintro ⟨c, k⟩ ⟨c', k'⟩ h
  rcases k with _ | ⟨t, k⟩ <;> rcases k' with _ | ⟨t', k'⟩
  · rw [show c = c' from barCell_eq_iff.mp h]
  · exact absurd h.symm (xCell_ne_bar _ _ _ _)
  · exact absurd h (xCell_ne_bar _ _ _ _)
  · obtain ⟨rfl, rfl, rfl⟩ := xCell_eq_iff.mp h; rfl

def ringCells : Finset (GSem nD τ sig) := Finset.univ.map ⟨kcell, kcell_injective⟩

/-- The duties: each device's unit on each barrier, and one for each transfer's semaphores. -/
abbrev DutyIx : Type := Fin 8 ⊕ (Fin 4 × Fin 7)
def tokOf (q : Dev nD × DutyIx) : GSem nD τ sig × ℕ × Fin 8 := match q.2 with
  | .inl p => (barCell q.1, 0, p)
  | .inr (t, k) => (xCell q.1 t k, 0, 0)

theorem tokOf_injective : Function.Injective tokOf := by
  rintro ⟨c, k⟩ ⟨c', k'⟩ h
  have h1 := congrArg (fun x : GSem nD τ sig × ℕ × Fin 8 => x.1) h
  have h2 := congrArg (fun x : GSem nD τ sig × ℕ × Fin 8 => x.2.2) h
  rcases k with p | ⟨t, k⟩ <;> rcases k' with p' | ⟨t', k'⟩
  · rw [show c = c' from barCell_eq_iff.mp h1, show p = p' from h2]
  · exact absurd h1.symm (xCell_ne_bar _ _ _ _)
  · exact absurd h1 (xCell_ne_bar _ _ _ _)
  · obtain ⟨rfl, rfl, rfl⟩ := xCell_eq_iff.mp h1; rfl

def ringToks : Finset (GSem nD τ sig × ℕ × Fin 8) := Finset.univ.map ⟨tokOf, tokOf_injective⟩

def u₀ : UU := (initOf (Pipeline.cells cfgs cellOf_inj) (Pipeline.launchToks cfgs cellOf_inj), (initOf ringCells ringToks, 1))

/-- The rights to pay device `c`'s own semaphores, as minted; -/
def toks (c : Dev nD) : sProp 𝕄 :=
  iprop((bigSep Finset.univ fun p : Fin 8 => dutyTok ER (barCell c) 0 p)
    ∗ (bigSep Finset.univ fun k : Fin 7 => dutyTok ER (xCell c 0 k) 0 0) ∗ (bigSep Finset.univ fun k : Fin 7 => dutyTok ER (xCell c 1 k) 0 0)
    ∗ (bigSep Finset.univ fun k : Fin 7 => dutyTok ER (xCell c 2 k) 0 0) ∗ (bigSep Finset.univ fun k : Fin 7 => dutyTok ER (xCell c 3 k) 0 0))
/-- the rights to pay that device `c` uses. -/
def payToks (c : Dev nD) : sProp 𝕄 :=
  iprop((bigSep Finset.univ fun p : Fin 8 => dutyTok ER (barCell p) 0 c)
    ∗ (bigSep Finset.univ fun k : Fin 7 => dutyTok ER (xCell c 0 k) 0 0) ∗ (bigSep Finset.univ fun k : Fin 7 => dutyTok ER (toCell c 1 k) 0 0)
    ∗ (bigSep Finset.univ fun k : Fin 7 => dutyTok ER (xCell c 2 k) 0 0) ∗ (bigSep Finset.univ fun k : Fin 7 => dutyTok ER (toCell c 3 k) 0 0))

/-- `k` places up the ring. -/
def upE (k : Fin 8) : Dev nD ≃ Dev nD := ⟨fun c => up c k, fun c => dn c k, fun c => dn_up c k, fun c => up_dn c k⟩

/-- The order of two separate conjunctions does not matter. -/
theorem swap_seps {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]; rfl

theorem deal_family (t : Fin 4) :
    (bigSep Finset.univ fun c : Dev nD => bigSep Finset.univ fun k : Fin 7 => (dutyTok ER (xCell c t k) 0 0 : sProp 𝕄))
      = bigSep Finset.univ fun c : Dev nD => bigSep Finset.univ fun k : Fin 7 => dutyTok ER (toCell c t k) 0 0 := by
  rw [swap_seps, swap_seps (fun (c : Dev nD) (k : Fin 7) => (dutyTok ER (toCell c t k) 0 0 : sProp 𝕄))]
  exact bigSep_congr fun k _ => bigSep_univ_equiv (upE (s1 k)) (fun c : Dev nD => (dutyTok ER (xCell c t k) 0 0 : sProp 𝕄))

theorem toks_around : (bigSep Finset.univ fun c : Dev nD => (toks c : sProp 𝕄)) = bigSep Finset.univ fun c : Dev nD => payToks c := by
  unfold toks payToks
  simp only [bigSep_sep']
  rw [deal_family 1, deal_family 3]
  refine congrArg₂ _ ?_ rfl
  exact swap_seps (fun (c : Dev nD) (p : Fin 8) => (dutyTok ER (barCell c) 0 p : sProp 𝕄))

/-! ## The launch's ghost state -/

def G (c : Dev nD) : sProp 𝕄 :=
  iprop((bigSep Finset.univ fun k : CellIx => roundState ER (Rd m) (kcell (c, k)) 0)
    ∗ (bigSep Finset.univ fun k : CellIx => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_prod, bigSep4]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- What device `c` alone holds of the protocol. -/
def linear (c : Dev nD) : sProp 𝕄 :=
  iprop((bigSep Finset.univ fun k : CellIx => atPos ER (kcell (c, k)) 0 ∅ 0) ∗ payToks c ∗ ownZero c ∗ spare c)

def G' (c : Dev nD) : sProp 𝕄 := iprop(∃ K, records m K ∗ linear c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (Rd m) κ (kcell (c, k))))
          ∗ (bigSep Finset.univ fun k : CellIx => iprop(atPos ER (kcell (c, k)) 0 ∅ 0 ∗ reached ER (kcell (c, k)) 0)) ∗ toks c ∗ ownZero c ∗ spare c) := by
  unfold G
  iintro ⟨Hos, Hus, Hst, Hat, Htok⟩
  ihave Hv := (sems0_eq (F := F) c) $$ [Hos Hus]
  · isplitl [Hos] <;> iassumption
  icases Hv with ⟨Hv, HZ, HS⟩
  imod (show iprop((bigSep Finset.univ fun k : CellIx => semVal (kcell (c, k)) 0) ∗ bigSep Finset.univ fun k : CellIx => roundState ER (Rd m) (kcell (c, k)) 0)
      ⊢ (|={Set.univ}=> bigSep Finset.univ fun k : CellIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [HZ] <;> iassumption

/-- What every device knows may stand beside every piece. -/
theorem beside_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CellIx => iprop(∃ κ : ℕ, cellInv ER (Rd m) κ (kcell (c, k))))
          ∗ (bigSep Finset.univ fun k : CellIx => iprop(atPos ER (kcell (c, k)) 0 ∅ 0 ∗ reached ER (kcell (c, k)) 0)) ∗ toks c ∗ ownZero c ∗ spare c) : sProp 𝕄)
      ⊢ bigSep Finset.univ (G' m) := by
  simp only [bigSep_sep']
  rw [← bigSep_univ_prod (fun q : Dev nD × CellIx => iprop(∃ κ : ℕ, cellInv ER (Rd m) κ (kcell q))),
    ← bigSep_univ_prod (fun q : Dev nD × CellIx => (reached ER (kcell q) 0 : sProp 𝕄)), toks_around]
  iintro ⟨HI, ⟨Hat, #HR⟩, Htok, HZ, HS⟩
  ihave HK := (BI.bigSep_exists_pi Finset.univ (fun (q : Dev nD × CellIx) (κ : ℕ) => (cellInv ER (Rd m) κ (kcell q) : sProp 𝕄))) $$ HI
  icases HK with ⟨%K, #HI⟩
  iapply (beside_all (R := records m K) (Φ := linear) fun c _ => show iprop(records m K ∗ linear c) ⊢ G' m c from by
    unfold G'; iintro H; iexists K; iexact H)
  isplitr
  · unfold records; isplitl; · iexact HI
    iexact HR
  · unfold linear; simp only [bigSep_sep']
    isplitl [Hat]; · iexact Hat
    isplitl [Htok]; · iexact Htok
    isplitl [HZ] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem eq_up_iff (c d k : Fin 8) : c = up d k ↔ d = dn c k :=
  ⟨fun h => by rw [h, dn_up], fun h => by rw [h, up_dn]⟩

theorem oweA_x (d c : Dev nD) (t : Fin 4) (k : Fin 7) : oweA d 7 (xCell c t k) () = if d = dn c (s1 k) ∧ t = 3 then NA else 0 := by
  simp only [oweA, Pi.add_apply, Finsupp.add_apply, tallyAt_apply, Pi.zero_apply, Finsupp.coe_zero, and_true, xCell_eq_iff, eq_up_iff]
  fin_cases k <;> simp [Fin.ofNat, Fin.ext_iff]

theorem oweX_x (d c : Dev nD) (t : Fin 4) (k : Fin 7) :
    oweX d 7 (xCell c t k) () = (if d = dn c (s1 k) ∧ t = 3 then NA else 0) + (if d = dn c (s1 k) ∧ t = 1 then NX else 0) := by
  rw [← oweA_x]
  simp only [oweX, Pi.add_apply, Finsupp.add_apply, tallyAt_apply, and_true, xCell_eq_iff, eq_up_iff]
  fin_cases k <;> simp [Fin.ofNat, Fin.ext_iff]

theorem oweB_x (d c : Dev nD) (t : Fin 4) (k : Fin 7) : ∀ j, oweB d j (xCell c t k) () = oweX d 7 (xCell c t k) ()
  | 0 => rfl
  | j + 1 => by
    show (oweB d j + tallyAt _ () _ : CellTallies nD τ sig Unit) (xCell c t k) () = _
    rw [Pi.add_apply, Finsupp.add_apply, oweB_x d c t k j, tallyAt_apply, if_neg (fun h => xCell_ne_bar _ _ _ _ h.1), Nat.add_zero]

/-- What device `d` owes device `c`'s transfer semaphores. -/
theorem owed_x (d c : Dev nD) (t : Fin 4) (k : Fin 7) (ht : t = 1 ∨ t = 3) : O₀ d (xCell c t k) () = if d = dn c (s1 k) then amt t else 0 := by
  rw [show O₀ d = oweB d 8 from rfl, oweB_x, oweX_x]
  rcases ht with rfl | rfl
  · by_cases h : d = dn c (s1 k) <;> simp [h, amt]
  · by_cases h : d = dn c (s1 k) <;> simp [h, amt]

theorem oweA_bar (d c : Dev nD) : ∀ j, oweA d j (barCell c) () = 0
  | 0 => rfl
  | j + 1 => by
    show (oweA d j + tallyAt _ () _ : CellTallies nD τ sig Unit) (barCell c) () = _
    rw [Pi.add_apply, Finsupp.add_apply, oweA_bar d c j, tallyAt_apply, if_neg (fun h => xCell_ne_bar _ _ _ _ h.1.symm)]
theorem oweX_bar (d c : Dev nD) : ∀ j, oweX d j (barCell c) () = 0
  | 0 => oweA_bar d c 7
  | j + 1 => by
    show (oweX d j + tallyAt _ () _ : CellTallies nD τ sig Unit) (barCell c) () = _
    rw [Pi.add_apply, Finsupp.add_apply, oweX_bar d c j, tallyAt_apply, if_neg (fun h => xCell_ne_bar _ _ _ _ h.1.symm)]

/-- What device `d` owes device `c`'s barrier. -/
theorem owed_bar (d c : Dev nD) : O₀ d (barCell c) () = if d = c then 0 else 1 := by
  show oweB d 8 (barCell c) () = _
  simp only [oweB, Pi.add_apply, Finsupp.add_apply, tallyAt_apply, oweX_bar, and_true, barCell_eq_iff]
  revert d c; decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_x (c : Dev nD) (t : Fin 4) (k : Fin 7) (ht : t = 1 ∨ t = 3) :
    tallyOn (xCell c t k) (launchCredit (Pipeline.owing O₀) 0 (xCell c t k)) = (tallyAt (xCell c t k) () (amt t) : CellTallies nD τ sig Unit) := by
  unfold tallyAt; refine congrArg _ (Finsupp.ext fun u => ?_); cases u
  rw [Pipeline.launchCredit_owing, Finsupp.single_eq_same, Finset.sum_congr rfl fun d _ => owed_x d c t k ht,
    Finset.sum_ite_eq' Finset.univ (dn c (s1 k)) fun _ => amt t, if_pos (Finset.mem_univ _)]

/-- The semaphore of a protocol cell. -/
def csem : CellIx → SemLoc sig
  | none => .reg barS
  | some (t, k) => .dma (xSem t k)
theorem csem_injective : Function.Injective csem := fun a b h => by
  have h' : kcell ((0 : Dev nD), a) = kcell ((0 : Dev nD), b) := by
    rcases a with _ | ⟨t, k⟩ <;> rcases b with _ | ⟨t', k'⟩ <;> exact congrArg (fun s => (((0 : Dev nD) : Thread nD τ), s)) h
  exact congrArg Prod.snd (kcell_injective h')

/-- What the launch deals device `c` for what the others owe it. -/
def credit (c : Dev nD) : sProp 𝕄 :=
  iprop(cred (tallyAt (barCell c) () 7) ∗ (bigSep Finset.univ fun k : Fin 7 => cred (tallyAt (xCell c 1 k) () (amt 1)))
    ∗ (bigSep Finset.univ fun k : Fin 7 => cred (tallyAt (xCell c 3 k) () (amt 3))))

theorem drop_sends (A B C D : sProp 𝕄) : iprop(A ∗ B ∗ C ∗ D) ⊢ iprop(B ∗ D) := by
  iintro ⟨-, H1, -, H3⟩
  isplitl [H1] <;> iassumption

theorem creds (c : Dev nD) : (Pipeline.launchCred O₀ c : sProp 𝕄) ⊢ credit c := by
  unfold Pipeline.launchCred credit
  refine (bigSep_subset (Finset.subset_univ (Finset.univ.map ⟨csem, csem_injective⟩))).trans ?_
  rw [bigSep_map, bigSep_cellIx, bigSep_univ_prod, bigSep4]
  refine BI.sep_mono (Entails.of_eq (congrArg cred (launch_bar c))) ?_
  exact (drop_sends _ _ _ _).trans (BI.sep_mono
    (Entails.of_eq (bigSep_congr fun k _ => congrArg cred (launch_x c 1 k (Or.inl rfl))))
    (Entails.of_eq (bigSep_congr fun k _ => congrArg cred (launch_x c 3 k (Or.inr rfl)))))

end Cert.KernelIdeal.Run

end
-- ==== Proof.Ends.lean ====
/-
# A device's memory at entry and at exit

How the whole buffers a device starts with are cut into the pieces the kernel's run takes, and how the pieces it
ends with are put together again.
-/
module

public import proofs.«01_k».proof.Proof.Deal

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The arguments -/

/-- What is left of an array of which the shares numbered in `T` are lent. -/
def kept (ℓ : Loc nD τ sig) (f : Buf (Elt F) ℓ) (T : Finset ℕ) : sProp 𝕄 :=
  iprop((ℓ ↦{Transfers.shareDrop fullShare 43} f) ∗ bigSep (Finset.range 43 \ T) (fun i => ℓ ↦{Transfers.shareTokN fullShare i} f))

theorem lend (ℓ : Loc nD τ sig) (f : Buf (Elt F) ℓ) (T : Finset ℕ) (hT : T ⊆ Finset.range 43) :
    (ℓ ↦{fullShare} f : sProp 𝕄) ⊣⊢ iprop(kept ℓ f T ∗ bigSep T (fun i => ℓ ↦{Transfers.shareTokN fullShare i} f)) := by
  have h := Transfers.pointsTo_toks_range (Ix := Unit) (Val := Elt F) (Name := ℕ) (U := UU) (Lvl := ℕ) (ℓ := ℓ) (S := Finset.univ) (f := f) fullShare 43
  rw [show bigSep (Finset.range 43) (fun i => (ℓ ↦{Transfers.shareTokN fullShare i} f : sProp 𝕄))
    = iprop(bigSep T (fun i => ℓ ↦{Transfers.shareTokN fullShare i} f) ∗ bigSep (Finset.range 43 \ T) (fun i => ℓ ↦{Transfers.shareTokN fullShare i} f))
    from bigSep_sdiff_split hT] at h
  unfold kept
  constructor
  · iintro H
    ihave H := h.1 $$ H
    icases H with ⟨H1, H2, H3⟩
    isplitr [H2]
    · isplitl [H1] <;> iassumption
    · iexact H2
  · iintro ⟨⟨H1, H3⟩, H2⟩
    iapply h.2
    isplitl [H1]; · iexact H1
    isplitl [H2] <;> iassumption

theorem two_of (Φ : ℕ → sProp 𝕄) : bigSep ({41, 42} : Finset ℕ) Φ = iprop(Φ 41 ∗ Φ 42) := by
  rw [bigSep_insert (by decide), bigSep_singleton]; rfl
theorem four_of (Φ : ℕ → sProp 𝕄) : bigSep ({33, 34, 37, 38} : Finset ℕ) Φ = iprop(Φ 33 ∗ Φ 34 ∗ Φ 37 ∗ Φ 38) := by
  rw [bigSep_insert (by decide), bigSep_insert (by decide), bigSep_insert (by decide), bigSep_singleton]; rfl

/-- The arguments whole, and what stays of them while the copies hold their shares. -/
def args (c : Dev nD) : sProp 𝕄 := iprop(whole c main_arg0 (xIn m c) ∗ whole c main_arg1 (wIn m c))
def argsKept (c : Dev nD) : sProp 𝕄 :=
  iprop(kept ((c : Thread nD τ).loc main_arg0) (xIn m c) {41, 42} ∗ kept ((c : Thread nD τ).loc main_arg1) (wIn m c) {33, 34, 37, 38})

theorem lent_whole (c : Dev nD) (b : Ref sig .tc) (k : ℕ) (f : Buf (Elt F) ((c : Thread nD τ).loc b)) :
    (lent c (Memref.whole b) k f : sProp 𝕄) = ((c : Thread nD τ).loc b ↦{Transfers.shareTokN fullShare k} f) := by
  unfold lent; simp only [View.set_whole]

theorem args_lend (c : Dev nD) : args m c ⊣⊢ iprop(argsKept m c ∗ argsLent m c) := by
  have hx := lend (F := F) ((c : Thread nD τ).loc main_arg0) (xIn m c) {41, 42} (by decide)
  have hw := lend (F := F) ((c : Thread nD τ).loc main_arg1) (wIn m c) {33, 34, 37, 38} (by decide)
  rw [two_of] at hx
  rw [four_of] at hw
  unfold args argsKept argsLent whole
  rw [lent_whole, lent_whole, lent_whole, lent_whole, lent_whole, lent_whole]
  constructor
  · iintro ⟨HX, HW⟩
    ihave HX := hx.1 $$ HX
    ihave HW := hw.1 $$ HW
    icases HX with ⟨K1, H1, H2⟩
    icases HW with ⟨K2, H3⟩
    isplitl [K1 K2]
    · isplitl [K1] <;> iassumption
    isplitl [H1]; · iexact H1
    isplitl [H2]; · iexact H2
    iexact H3
  · iintro ⟨⟨K1, K2⟩, H1, H2, H3⟩
    isplitl [K1 H1 H2]
    · iapply hx.2
      isplitl [K1]; · iexact K1
      isplitl [H1] <;> iassumption
    iapply hw.2
    isplitl [K2]; · iexact K2
    iexact H3

/-! ## Entry -/

/-- A device's own piece apart from the others'. -/
theorem apart (c : Dev nD) (Φ : Dev nD → sProp 𝕄) :
    bigSep Finset.univ Φ = iprop(Φ c ∗ bigSep Finset.univ (fun p : Dev nD => if p = c then iprop(emp) else Φ p)) := by
  rw [bigSep_univ_at Φ c]
  refine congrArg _ ?_
  rw [← Finset.filter_ne' Finset.univ c, bigSep_filter]
  refine bigSep_congr fun p _ => ?_
  by_cases h : p = c
  · rw [if_neg (not_not.mpr h), if_pos h]; rfl
  · rw [if_pos h, if_neg h]

/-- The ring read backwards from device `c`. -/
def backE (c : Dev nD) : Fin 8 ≃ Dev nD :=
  ⟨fun k => dn c k, fun p => dn c p, fun k => by revert c k; decide, fun p => by revert c p; decide⟩

theorem some_xr (c p : Dev nD) (f : Buf (Elt F) (xrM.view.loc (c : Thread nD τ))) : (xrPt c p f : sProp 𝕄) ⊢ iprop(∃ f, xrPt (F := F) c p f) := by
  iintro H; iexists f; iexact H
theorem some_ga (c : Dev nD) (k : Fin 8) (f : Buf (Elt F) (gaM.view.loc (c : Thread nD τ))) :
    (gaPt c k fullShare f : sProp 𝕄) ⊢ iprop(∃ f, gaPt (F := F) c k fullShare f) := by
  iintro H; iexists f; iexact H
theorem any_of (c : Dev nD) {sp : Space} {s : Shape} {e : EltTy} (M : Memref sig .tc sp s e) (f : Buf (Elt F) (M.view.loc (c : Thread nD τ))) :
    (holds c M f : sProp 𝕄) ⊢ iprop(∃ f, holds c M f) := by iintro H; iexists f; iexact H
theorem dn_self (c : Dev nD) : dn c c = 0 := by revert c; decide

theorem split_xr (c : Dev nD) (f : Buf (Elt F) ((c : Thread nD τ).loc cc0_scratch0)) :
    (whole c cc0_scratch0 f : sProp 𝕄) ⊢ iprop((∃ f, holds c (xrOwn c) f)
      ∗ bigSep Finset.univ (fun p : Dev nD => if p = c then iprop(emp) else iprop(∃ f, xrPt (F := F) c p f))) := by
  rw [xrM_blocks, apart c]
  refine BI.sep_mono ?_ (bigSep_mono fun p _ => ?_)
  · rw [xrOwn_eq]; exact any_of c (xrBlk c) f
  · by_cases h : p = c
    · rw [if_pos h, if_pos h]; exact BI.Entails.refl _
    · rw [if_neg h, if_neg h]; exact some_xr c p f

theorem split_ga (c : Dev nD) (f : Buf (Elt F) ((c : Thread nD τ).loc cc0_scratch4)) :
    (whole c cc0_scratch4 f : sProp 𝕄) ⊢ iprop((∃ f, gaPt (F := F) c 0 fullShare f)
      ∗ bigSep Finset.univ (fun p : Dev nD => if p = c then iprop(emp) else iprop(∃ f, gaPt (F := F) c (dn c p) fullShare f))) := by
  rw [gaM_rows, bigSep_univ_equiv (backE c).symm, apart c]
  refine BI.sep_mono ?_ (bigSep_mono fun p _ => ?_)
  · rw [show (backE c).symm c = 0 from dn_self c]; exact some_ga c 0 f
  · by_cases h : p = c
    · rw [if_pos h, if_pos h]; exact BI.Entails.refl _
    · rw [if_neg h, if_neg h]; exact some_ga c (dn c p) f

/-- The units on the others' barriers, each with the places its owner will write. -/
theorem sig_intro (c : Dev nD) :
    iprop((bigSep Finset.univ fun p : Fin 8 => dutyTok ER (barCell p) 0 c)
      ∗ bigSep Finset.univ (fun p : Dev nD => if p = c then iprop(emp) else iprop(∃ f, xrPt (F := F) c p f))
      ∗ bigSep Finset.univ (fun p : Dev nD => if p = c then iprop(emp) else iprop(∃ f, gaPt (F := F) c (dn c p) fullShare f)))
      ⊢ (sigToks c : sProp 𝕄) := by
  unfold sigToks
  rw [← bigSep_sep', ← bigSep_sep']
  refine bigSep_mono fun p _ => ?_
  unfold sigTok barPay
  by_cases h : p = c
  · rw [if_pos h, if_pos h, if_pos h]
    show iprop(_ ∗ _ ∗ _) ⊢ (_ : sProp 𝕄)
    iintro ⟨-, -, -⟩; iempintro
  · rw [if_neg h, if_neg h, if_neg h]; exact BI.Entails.refl _

theorem xb_st (c : Dev nD) (k : Fin 7) : (iprop(∃ f, xbPt (F := F) c (s1 k) f) : sProp 𝕄) ⊢ iprop(∃ f, holds c (xbSt c k) f) := by
  rw [xbSt_eq]; exact BI.Entails.refl _

theorem split_xb (c : Dev nD) (f : Buf (Elt F) ((c : Thread nD τ).loc cc0_scratch2)) :
    (whole c cc0_scratch2 f : sProp 𝕄) ⊢ iprop((∃ f, xbPt (F := F) c 0 f) ∗ bigSep Finset.univ (fun k : Fin 7 => iprop(∃ f, holds (F := F) c (xbSt c k) f))) := by
  have h : (whole c cc0_scratch2 f : sProp 𝕄) ⊢ iprop((∃ f, xbPt (F := F) c 0 f) ∗ bigSep Finset.univ (fun k : Fin 7 => iprop(∃ f, xbPt (F := F) c (s1 k) f))) := by
    rw [xbM_blocks]
    refine (bigSep_mono fun k _ => show xbPt c k f ⊢ iprop(∃ f, xbPt (F := F) c k f) from by iintro H; iexists f; iexact H).trans ?_
    rw [bigSep8, bigSep7]; exact BI.Entails.refl _
  exact h.trans (BI.sep_mono (BI.Entails.refl _) (bigSep_mono fun k _ => xb_st c k))

theorem split_wb (c : Dev nD) (f : Buf (Elt F) ((c : Thread nD τ).loc cc0_scratch1)) :
    (whole c cc0_scratch1 f : sProp 𝕄) ⊢ iprop((∃ f, holds c (wbHalf 0 0) f) ∗ (∃ f, holds c (wbHalf 0 1) f) ∗ (∃ f, holds c (wbHalf 1 0) f) ∗ (∃ f, holds c (wbHalf 1 1) f)) := by
  rw [wbM_halves, bigSep_univ_prod, bigSep2, bigSep2, bigSep2]
  iintro ⟨⟨H1, H2⟩, H3, H4⟩
  isplitl [H1]; · iexists f; iexact H1
  isplitl [H2]; · iexists f; iexact H2
  isplitl [H3]; · iexists f; iexact H3
  iexists f; iexact H4

theorem split_sg (c : Dev nD) (f : Buf (Elt F) ((c : Thread nD τ).loc cc0_scratch3)) :
    (whole c cc0_scratch3 f : sProp 𝕄) ⊢ bigSep Finset.univ (fun s : Fin 2 => iprop(∃ f, holds (F := F) c (sgSlot s) f)) := by
  rw [sgM_slots, bigSep2, bigSep2]
  iintro ⟨H1, H2⟩
  isplitl [H1]; · iexists f; iexact H1
  iexists f; iexact H2

theorem split_o (c : Dev nD) (f : Buf (Elt F) ((c : Thread nD τ).loc cc0_stg0_0)) :
    (whole c cc0_stg0_0 f : sProp 𝕄) ⊢ bigSep Finset.univ (fun j : Fin 8 => iprop(∃ f, holds (F := F) c (oChunk j) f)) := by
  rw [oM_chunks]
  exact bigSep_mono fun j _ => any_of c (oChunk j) f

/-- The protocol's pieces of a device, from what the launch dealt it and its landing places. -/
theorem proto_intro (c : Dev nD) :
    iprop((bigSep Finset.univ fun k : CellIx => atPos ER (kcell (c, k)) 0 ∅ 0) ∗ payToks c ∗ credit c
      ∗ bigSep Finset.univ (fun p : Dev nD => if p = c then iprop(emp) else iprop(∃ f, xrPt (F := F) c p f))
      ∗ bigSep Finset.univ (fun p : Dev nD => if p = c then iprop(emp) else iprop(∃ f, gaPt (F := F) c (dn c p) fullShare f)))
      ⊢ (protoIn c : sProp 𝕄) := by
  rw [bigSep_cellIx, bigSep_univ_prod, bigSep4]
  unfold payToks credit protoIn sendTok waitTok
  simp only [bigSep_sep']
  iintro ⟨⟨HB, H0, H1, H2, H3⟩, ⟨TB, T0, T1, T2, T3⟩, ⟨CB, C1, C3⟩, HX, HG⟩
  isplitl [TB HX HG]
  · iapply (sig_intro (F := F) c)
    isplitl [TB]; · iexact TB
    isplitl [HX] <;> iassumption
  isplitl [CB]; · iexact CB
  isplitl [HB]; · iexact HB
  isplitl [T0 T1 H0]
  · isplitl [T0]; · iexact T0
    isplitl [T1]; · iexact T1
    iexact H0
  isplitl [C1 H1]
  · isplitl [C1]; · iexact C1
    iexact H1
  isplitl [T2 T3 H2]
  · isplitl [T2]; · iexact T2
    isplitl [T3]; · iexact T3
    iexact H2
  isplitl [C3]; · iexact C3
  iexact H3

/-! ## Exit -/

theorem join_xr (c : Dev nD) : (bigSep Finset.univ (fun d : Fin 8 => holds c (xrLd c d) (xrV m c)) : sProp 𝕄) ⊢ iprop(∃ f, whole c cc0_scratch0 f) := by
  have h : (whole c cc0_scratch0 (xrV m c) : sProp 𝕄) = bigSep Finset.univ (fun d : Fin 8 => holds c (xrLd c d) (xrV m c)) := by
    rw [xrM_blocks, bigSep_univ_equiv (backE c)]
    exact bigSep_congr fun d _ => xr_ld c _ d rfl _
  rw [← h]; iintro H; iexists (xrV m c); iexact H

theorem join_xb (c : Dev nD) : (iprop((∃ f, xbPt (F := F) c 0 f) ∗ bigSep Finset.univ (fun k : Fin 7 => xPay m c 0 k)) : sProp 𝕄) ⊢ iprop(∃ f, whole c cc0_scratch2 f) := by
  refine BI.Entails.trans (BI.Entails.trans (BI.sep_mono (BI.Entails.refl _) (bigSep_mono fun k _ =>
    show xPay m c 0 k ⊢ iprop(∃ f, xbPt (F := F) c (s1 k) f) from ?_)) ?_) (xbM_join c (xbV m c))
  · show xbPt c (s1 k) (xbV m c) ⊢ _
    iintro H; iexists (xbV m c); iexact H
  · rw [bigSep8, bigSep7]; exact BI.Entails.refl _

include m in
theorem join_sg (c : Dev nD) : (bigSep Finset.univ (fun s : Fin 2 => iprop(∃ f, holds (F := F) c (sgSlot s) f)) : sProp 𝕄) ⊢ iprop(∃ f, whole c cc0_scratch3 f) := by
  refine BI.Entails.trans ?_ (sgM_join c (m ((c : Thread nD τ).loc cc0_scratch3)))
  rw [bigSep2, bigSep2]; exact BI.Entails.refl _

include m in
theorem join_wb (c : Dev nD) :
    (iprop((∃ f, holds c (wbHalf 0 0) f) ∗ (∃ f, holds c (wbHalf 0 1) f) ∗ (∃ f, holds c (wbHalf 1 0) f) ∗ (∃ f, holds c (wbHalf 1 1) f)) : sProp 𝕄)
      ⊢ iprop(∃ f, whole c cc0_scratch1 f) := by
  refine BI.Entails.trans ?_ (wbM_join c (m ((c : Thread nD τ).loc cc0_scratch1)))
  rw [bigSep_univ_prod, bigSep2, bigSep2, bigSep2]
  show iprop(_ ∗ _ ∗ _ ∗ _) ⊢ (iprop((_ ∗ _) ∗ _ ∗ _) : sProp 𝕄)
  iintro ⟨H1, H2, H3, H4⟩
  isplitl [H1 H2]
  · isplitl [H1]; · iexact H1
    iexact H2
  isplitl [H3]; · iexact H3
  iexact H4

end Cert.KernelIdeal.Run

end
-- ==== Proof.Launch.lean ====
/-
# The kernel's run on the whole machine

The proof data of the call's one grid point, the body's obligation at it, and the run of the whole program: every
fair execution on the eight devices ends, with each device's result at the computed contents, its arguments
unchanged and every semaphore at zero. It is proved for any interpretation of the floats.
-/
module

public import proofs.«01_k».proof.Proof.Ends
public import Idealize.ShloMosaic.Lib.Pipeline.CollectiveSegs
public import Idealize.ShloMosaic.Lib.Pipeline.Value

@[expose] public section

noncomputable section

namespace Cert.KernelIdeal.Run

open Cert.KernelIdeal Cert.KernelIdeal.Gen
open Idealize.ShloMosaic
open Idealize.ShloMosaic.TcCoe
open Idealize.ShloMosaic.Pipeline (Dat Cfg BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

abbrev t₀ : Fin cfg0.N := t0_0

/-- The kernel's scratch buffers, at any contents. -/
def scratches (c : Dev nD) : sProp 𝕄 :=
  iprop((∃ f, whole c cc0_scratch0 f) ∗ (∃ f, whole c cc0_scratch1 f) ∗ (∃ f, whole c cc0_scratch2 f)
    ∗ (∃ f, whole c cc0_scratch3 f) ∗ (∃ f, whole c cc0_scratch4 f) ∗ (∃ f, whole c cc0_scratch5 f))

theorem scratches_eq (c : Dev nD) :
    (Pipeline.scopedRest (Ix := Unit) (Name := ℕ) (U := UU) (Lvl := ℕ) (Val := Elt F) cfg0.spec c : sProp 𝕄) = scratches c :=
  scopedRest0_eq c

/-- What a device starts from besides its buffers; -/
def start (c : Dev nD) : sProp 𝕄 := iprop(G' m c ∗ credit c ∗ levAts L lv ∗ args m c)
/-- all it holds at its one point, before -/
def Φ₀ (c : Dev nD) : sProp 𝕄 := iprop(start m c ∗ scratches c)
/-- and after. -/
def Φ₁ (c : Dev nD) : sProp 𝕄 :=
  iprop((semVal (barCell c) 0 ∗ args m c)
    ∗ (bigSep Finset.univ (fun q : Fin 4 × Fin 7 => semVal (xCell c q.1 q.2) 0) ∗ ownZero c ∗ spare c) ∗ scratches c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ whole c b f) := by
  unfold owns; simp only [Memref.view_whole, View.read_whole, View.set_whole]

/-! ## The body's obligation -/

/-- The result's window at contents `X`. -/
def stg (c : Dev nD) (X : FVec F S512x8192 .f32) : sProp 𝕄 := iprop(∃ f, ⌜f = X⌝ ∗ whole (F := F) c cc0_stg0_0 f)

def bodyPre (c : Dev nD) : sProp 𝕄 :=
  iprop(Φ₀ m c ∗ (dats m ρ 0 c).owesAt () t₀.castSucc ∗ (∃ d, stg c ((dats m ρ 0 c).before (0 : Fin 1) t₀ d)))
def bodyPost (c : Dev nD) : sProp 𝕄 :=
  iprop(Φ₁ m c ∗ (dats m ρ 0 c).owesAt () t₀.succ ∗ stg c (outV m c))

theorem families (c : Dev nD) :
    (bigSep Finset.univ (fun q : Fin 4 × Fin 7 => semVal (xCell c q.1 q.2) 0) : sProp 𝕄)
      = iprop(bigSep Finset.univ (fun k : Fin 7 => semVal (xCell c 0 k) 0) ∗ bigSep Finset.univ (fun k : Fin 7 => semVal (xCell c 1 k) 0)
        ∗ bigSep Finset.univ (fun k : Fin 7 => semVal (xCell c 2 k) 0) ∗ bigSep Finset.univ (fun k : Fin 7 => semVal (xCell c 3 k) 0)) := by
  rw [bigSep_univ_prod, bigSep4]

/-- The kernel on device `c`, from what it holds before to what it holds after. -/
theorem sound_body (c : Dev nD) :
    bodyPre m ρ c ⊢ wp frame (wpE (defs₀ (F := F)) 𝒱₀ (c : Thread nD τ) none) Set.univ
      (cc0_body xA (Memref.isWhole_whole _) wA (Memref.isWhole_whole _) oM (Memref.isWhole_whole _) xrM (Memref.isWhole_whole _)
        wbM (Memref.isWhole_whole _) xbM (Memref.isWhole_whole _) sgM (Memref.isWhole_whole _) gaM (Memref.isWhole_whole _) acM (Memref.isWhole_whole _)
        cc0_scratch6 cc0_scratch7 cc0_scratch8 cc0_scratch9 cc0_scratch10 cc0_scratch11) (fun _ => bodyPost m ρ c) := by
  unfold bodyPre Φ₀ start G' linear scratches stg Dat.owesAt Pipeline.owesWithin
  rw [show (dats m ρ 0 c).owed t₀.castSucc = O₀ c from rfl]
  iintro ⟨⟨⟨⟨%K, #HR, Hat, Htok, HZ, HS⟩, Hcr, #HL, Hargs⟩, ⟨%f0, H0⟩, ⟨%f1, H1⟩, ⟨%f2, H2⟩, ⟨%f3, H3⟩, ⟨%f4, H4⟩, ⟨%f5, H5⟩⟩, ⟨%W, %hW, HO⟩, ⟨%d, %fo, %hfo, Ho⟩⟩
  ihave H0 := (split_xr c f0) $$ H0
  icases H0 with ⟨Hxr, Hxrs⟩
  ihave H4 := (split_ga c f4) $$ H4
  icases H4 with ⟨Hga, Hgas⟩
  ihave H2 := (split_xb c f2) $$ H2
  icases H2 with ⟨Hxb0, Hxb⟩
  ihave H1 := (split_wb c f1) $$ H1
  icases H1 with ⟨Hwb00, Hwb01, Hwb10, Hwb11⟩
  ihave H3 := (split_sg c f3) $$ H3
  ihave Ho := (split_o c fo) $$ Ho
  ihave H5 := (Entails.of_eq (holds_whole c cc0_scratch5 f5).symm) $$ H5
  ihave H5 := (any_of c acM f5) $$ H5
  ihave Hargs := (args_lend m c).1 $$ Hargs
  icases Hargs with ⟨Hkept, Hlent⟩
  ihave Hproto := (proto_intro (F := F) c) $$ [Hat Htok Hcr Hxrs Hgas]
  · isplitl [Hat]; · iexact Hat
    isplitl [Htok]; · iexact Htok
    isplitl [Hcr]; · iexact Hcr
    isplitl [Hxrs]; · iexact Hxrs
    iexact Hgas
  iapply (run_body m K c W (fun _ => bodyPost m ρ c)) $$ HR HL Hproto HO HZ Hlent Hxr Hxb H3 Hwb00 Hwb01 Hwb10 Hwb11 Hga H5 Ho
  iintro %W' HO Hout
  unfold bodyOut
  icases Hout with ⟨HB, X0, X1, X2, X3, HZ, Hlent, Hxr, Hxb, Hsg, Hwb00, Hwb01, Hwb10, Hwb11, Hga, ⟨%fa, Hac⟩, Ho⟩
  unfold bodyPost Φ₁ stg scratches Dat.owesAt Pipeline.owesWithin
  rw [show (dats m ρ 0 c).owed t₀.succ = 0 from rfl, families]
  isplitl [HB Hkept Hlent X0 X1 X2 X3 HZ HS Hxr Hxb0 Hxb Hsg Hwb00 Hwb01 Hwb10 Hwb11 Hga Hac]
  · isplitl [HB Hkept Hlent]
    · isplitl [HB]; · iexact HB
      iapply (args_lend m c).2
      isplitl [Hkept] <;> iassumption
    isplitl [X0 X1 X2 X3 HZ HS]
    · isplitl [X0 X1 X2 X3]
      · isplitl [X0]; · iexact X0
        isplitl [X1]; · iexact X1
        isplitl [X2] <;> iassumption
      isplitl [HZ] <;> iassumption
    isplitl [Hxr]; · iapply (join_xr m c); iexact Hxr
    isplitl [Hwb00 Hwb01 Hwb10 Hwb11]
    · iapply (join_wb m c)
      isplitl [Hwb00]; · iexact Hwb00
      isplitl [Hwb01]; · iexact Hwb01
      isplitl [Hwb10]; · iexact Hwb10
      iexact Hwb11
    isplitl [Hxb0 Hxb]
    · iapply (join_xb m c)
      isplitl [Hxb0]; · iexact Hxb0
      iexact Hxb
    isplitl [Hsg]; · iapply (join_sg m c); iexact Hsg
    isplitl [Hga]; · iexists (gaV m c); iexact Hga
    iexists fa
    iapply (Entails.of_eq (holds_whole c cc0_scratch5 fa)); iexact Hac
  isplitl [HO]
  · iexists W'
    isplitr; · ipureintro; exact fun _ _ => Or.inl trivial
    iexact HO
  iexists (outV m c)
  isplitr; · (ipureintro; rfl)
  iexact Ho

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch theorem's conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp 𝕄) := by
  have e : (Pipeline.unscopedRestP (Ix := Unit) (Name := ℕ) (U := UU) (Lvl := ℕ) Pipeline.Prefetch.none cfg0.spec c (fun b => m ((c : Thread nD τ).loc b)) : sProp 𝕄) = args m c := by
    rw [Pipeline.unscopedRestP_eq_of_list cfg0.spec c Pipeline.Prefetch.none (fun b => m ((c : Thread nD τ).loc b)) [main_arg0, main_arg1] (by decide) (by decide)]; rfl
  rw [e]
  iintro ⟨Hargs, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratches_eq]
  unfold Φ₀
  iintro ⟨Hs, -, Hr⟩
  isplitl [Hs] <;> iassumption

theorem phi1_exit (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, scratches_eq, ownSems0_eq, unscopedSems0_eq]
  unfold Φ₁
  iintro H; iexact H

theorem waits (c : Dev nD) : (levAts L lv : sProp 𝕄) ⊢ Pipeline.cellsWaits cfgs (dats m ρ) () 0 c :=
  Pipeline.cellsWaits_intro cfgs (dats m ρ) () 0 c fun w s t =>
    mayWait0 c _ _ (by fin_cases w <;> fin_cases s <;> decide) (by
      rcases t with ⟨_ | _, ht⟩
      · exact above_oweB c 8
      · exact above_zero 0)

/-- What is read off the last state on each device: its barrier at zero and its arguments as they were. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

theorem read_whole (c : Dev nD) (b : Ref sig .tc) (f : Buf (Elt F) ((c : Thread nD τ).loc b)) (s' : Phys nD τ sig (Elt F)) :
    iprop(whole c b f ∗ SI s') ⊢ (iprop(⌜s'.mem.mem ((c : Thread nD τ).loc b) = f⌝ ∗ SI s') : sProp 𝕄) := by
  have h := pointsTo_read_all (Ix := Unit) (Name := ℕ) (U := UU) (Lvl := ℕ) ({0} : Finset (Fin 1)) (fun _ => (c : Thread nD τ).loc b) (fun _ => f) s'
  rw [bigSep_singleton] at h
  iintro H
  ihave H := h $$ H
  icases H with ⟨%hh, H⟩
  isplitr; · ipureintro; exact hh 0 (Finset.mem_singleton_self _)
  iexact H

theorem read_end (c : Dev nD) (s' : Phys nD τ sig (Elt F)) :
    iprop((unscopedSems0 c ∗ args m c) ∗ emp ∗ SI s') ⊢ |={Set.univ}=> (iprop(⌜QY m c s'.mem⌝ ∗ SI s') : sProp 𝕄) := by
  unfold args
  iintro ⟨⟨Hu, Hx, Hw⟩, -, HSI⟩
  ihave HSI := (read_whole c main_arg0 (xIn m c) s') $$ [Hx HSI]
  · isplitl [Hx] <;> iassumption
  icases HSI with ⟨%hx, HSI⟩
  ihave HSI := (read_whole c main_arg1 (wIn m c) s') $$ [Hw HSI]
  · isplitl [Hw] <;> iassumption
  icases HSI with ⟨%hw, HSI⟩
  imod (Pipeline.unscopedSems0_read (X := unscopedSems0 c) (c := c) fupd_intro s') $$ [Hu HSI] with ⟨%hs, HSI⟩
  · isplitl [Hu] <;> iassumption
  imodintro
  isplitr; · ipureintro; exact ⟨hs, hx, hw⟩
  iexact HSI

/-! ## The run -/

/-- Each device's result is the computed one and its arguments are unchanged. -/
def QC (r : PUnit × MemSt nD τ sig (Elt F)) : Prop := ∀ c : Dev nD,
  r.2.mem ((c : Thread nD τ).loc main_v1) = outV m c
    ∧ r.2.mem ((c : Thread nD τ).loc main_arg0) = m ((c : Thread nD τ).loc main_arg0)
    ∧ r.2.mem ((c : Thread nD τ).loc main_arg1) = m ((c : Thread nD τ).loc main_arg1)

/-- The result's window is the whole array. -/
theorem blk_start : win0_0.index t0_0 0 * win0_0.size 0 = 0 ∧ win0_0.index t0_0 1 * win0_0.size 1 = 0
    ∧ win0_0.xsize (grid0.coords t0_0) 0 = 512 ∧ win0_0.xsize (grid0.coords t0_0) 1 = 8192 := by decide +kernel

/-- The result array after the one point is what the body left in its window. -/
theorem arr_out (c : Dev nD) : (dats m ρ 0 c).arrAt (0 : Fin 1) cfg0.N = outV m c :=
  (dats m ρ 0 c).arrAt_eq_of_cover (0 : Fin 1) (outV m c) (fun t _ => by
    obtain rfl := fin_N0 t
    have ha : (dats m ρ 0 c).after (0 : Fin 1) t0_0 = outV m c := by dsimp only [dats]
    unfold Pipeline.Dat.flushed
    rw [ha]
    refine funext fun i => ?_
    show outV m c _ = outV m c _
    refine congrArg (outV m c) (funext fun a => Fin.ext ?_)
    match a with
    | ⟨0, _⟩ => show (i 0 : ℕ) = win0_0.index t0_0 0 * win0_0.size 0 + 1 * (i 0 : ℕ); rw [blk_start.1]; omega
    | ⟨1, _⟩ => show (i 1 : ℕ) = win0_0.index t0_0 1 * win0_0.size 1 + 1 * (i 1 : ℕ); rw [blk_start.2.1]; omega)
    (fun i => ⟨t0_0, (by decide +kernel : ∀ t : Fin grid0.N, win0_0.flush t = true) _, by
      show i ∈ ((View.whole main_v1).slice (win0_0.rect t0_0)).set
      rw [View.set_slice_whole, Rect.mem_set_unit]
      have h0 : (i 0 : ℕ) < 512 := (i 0).isLt
      have h1 : (i 1 : ℕ) < 8192 := (i 1).isLt
      intro a
      match a with
      | ⟨0, _⟩ =>
        show win0_0.index t0_0 0 * win0_0.size 0 ≤ (i 0 : ℕ) ∧ (i 0 : ℕ) < win0_0.index t0_0 0 * win0_0.size 0 + win0_0.xsize (grid0.coords t0_0) 0
        rw [blk_start.1, blk_start.2.2.1]; omega
      | ⟨1, _⟩ =>
        show win0_0.index t0_0 1 * win0_0.size 1 ≤ (i 1 : ℕ) ∧ (i 1 : ℕ) < win0_0.index t0_0 1 * win0_0.size 1 + win0_0.xsize (grid0.coords t0_0) 1
        rw [blk_start.2.1, blk_start.2.2.2]; omega⟩)

set_option maxRecDepth 8000 in
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (show BI.own (embR ((initOf ringCells ringToks, 1) : UB × Counters)) ⊢ (BI.own (ER (initOf ringCells ringToks)) : sProp 𝕄) from BI.Entails.refl _) $$ HX
      imod (fund_ring m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := QY m) (hY := read_end m)
    (hQ := fun _ h hs => ⟨fun c => ⟨((h c).1 0).trans (arr_out m ρ c), (h c).2.2.2⟩, sem_eq_zero hs fun c => (h c).2.2.1⟩)

end Cert.KernelIdeal.Run

end
-- ==== Proof.Frames.lean ====
/-
# The frames of the two printed kernels

The kernel and its ideal reading have the same text, so the run proved once (`run_main`), over any float values, gives both
frames. Their body tables are equal label by label.
-/
module

public import proofs.«01_k».proof.Defs
public import proofs.«01_k».proof.Proof.Gen.Kernel
public import proofs.«01_k».proof.Proof.Launch

@[expose] public section

noncomputable section

namespace Cert.Proof

open Idealize.ShloMosaic Idealize.SL.Sem

/-- The side conditions of the printed kernel hold. -/
instance kernelFacts : Cert.Kernel.Facts := Cert.Kernel.Gen.facts

variable {F : FTy → Type} [FloatOps F]

/-- The two programs' kernels have the same body at every label. -/
theorem bodies_eq : Cert.Kernel.defs₀ (F := F) = Cert.KernelIdeal.defs₀ (F := F) :=
  congrArg Defs.onTc (funext fun l => funext fun a => by
    obtain ⟨l, hl⟩ := l
    obtain rfl : l = 0 := by omega
    rfl)

/-- So their whole tables, pipeline included, are equal. -/
theorem tables_eq : Cert.Kernel.defs (F := F) = Cert.KernelIdeal.defs (F := F) :=
  congrArg (Pipeline.defs Cert.KernelIdeal.pcfgs) bodies_eq

/-- The kernel as written runs on every input, its arguments unchanged and its semaphores back at zero. -/
theorem frame_kernel : Cert.quiescent_Kernel := fun m ρ _ => by
  rw [tables_eq]
  exact (θ_run Cert.KernelIdeal.defs _ _).mono (fun _ h => ⟨fun c => (h.1 c).2, h.2⟩)
    (Cert.KernelIdeal.Run.run_main (F := Bits) m ρ)

/-- So does the kernel read at the extended reals. -/
theorem frame_ideal : Cert.quiescent_KernelIdeal := fun m ρ _ =>
  (θ_run Cert.KernelIdeal.defs _ _).mono (fun _ h => ⟨fun c => (h.1 c).2, h.2⟩)
    (Cert.KernelIdeal.Run.run_main (F := Ideal) m ρ)

end Cert.Proof

end
-- ==== Proof.Quant.lean ====
/-
# The two quantisers agree over the extended reals

The kernel multiplies by `448 / g`, casts and multiplies by `g / 448`, its `g` kept away from zero by a small positive
constant; the reference divides by `a / 448`, clips, casts and multiplies by `a / 448`. A cast is the identity here, so
for entries between zero and `a` both give the entry back, or zero where `a` is infinite.
-/
module

public import Idealize.ShloMosaic.PureOps.Ideal.Laws

@[expose] public section

noncomputable section

namespace Cert.Proof

open Idealize.ShloMosaic

/-- The constant 448 as printed, -/
theorem word_448 : Ideal.ofBits .f32 0x43E00000#32 = ((448 : ℝ) : EReal) := by
  simp [Ideal.ofBits, Ideal.ieee]; norm_num; rw [← EReal.coe_mul]; norm_num
/-- its negative, -/
theorem word_neg448 : Ideal.ofBits .f32 0xC3E00000#32 = ((-448 : ℝ) : EReal) := by
  simp [Ideal.ofBits, Ideal.ieee]; norm_num; rw [← EReal.coe_mul]; norm_num
/-- the start of a maximum, -/
theorem word_bot : Ideal.ofBits .f32 0xFF800000#32 = ⊥ := by
  simp [Ideal.ofBits, Ideal.ieee]
/-- and the kernel's least maximum, a positive real. -/
theorem word_tiny : ∃ e : ℝ, 0 < e ∧ Ideal.ofBits .f32 0x0DA24260#32 = (e : EReal) := by
  refine ⟨(2 ^ 23 + 2245216 : ℕ) * (2 : ℝ) ^ ((27 : ℤ) - 127 - 23), by positivity, ?_⟩
  simp [Ideal.ofBits, Ideal.ieee]

/-- What the kernel does to one entry. -/
def kernQ (g y : EReal) : EReal :=
  y * Ideal.div ((448 : ℝ) : EReal) g * Ideal.div g ((448 : ℝ) : EReal)

/-- What the reference does to one entry. -/
def refQ (a y : EReal) : EReal :=
  min ((448 : ℝ) : EReal) (max ((-448 : ℝ) : EReal) (Ideal.div y (Ideal.div a ((448 : ℝ) : EReal)))) * Ideal.div a ((448 : ℝ) : EReal)

/-- Division by 448. -/
theorem div_448 (x : EReal) : Ideal.div x ((448 : ℝ) : EReal) = x * ((1 / 448 : ℝ) : EReal) :=
  Ideal.div_coe (by norm_num) x

theorem top_div_448 : Ideal.div ⊤ ((448 : ℝ) : EReal) = ⊤ := by
  rw [div_448]; exact EReal.top_mul_coe_of_pos (by norm_num)

/-- Dividing by infinity gives zero. -/
theorem div_top (x : EReal) : Ideal.div x ⊤ = 0 := by
  rw [Ideal.div, if_neg (by exact EReal.top_ne_zero), EReal.inv_top, mul_zero]

/-- With a positive real maximum the kernel gives the entry back; -/
theorem kernQ_real {g : ℝ} (hg : 0 < g) (y : EReal) : kernQ g y = y := by
  rw [kernQ, Ideal.div_coe hg.ne', div_448, mul_assoc, ← EReal.coe_mul, ← EReal.coe_mul, ← EReal.coe_mul]
  rw [show (448 * (1 / g) * (g * (1 / 448)) : ℝ) = 1 by field_simp]
  simp

/-- with an infinite one, zero. -/
theorem kernQ_top (y : EReal) : kernQ ⊤ y = 0 := by
  rw [kernQ, div_top, mul_zero, zero_mul]

theorem refQ_top (y : EReal) : refQ ⊤ y = 0 := by
  rw [refQ, top_div_448, div_top]
  have h : min ((448 : ℝ) : EReal) (max ((-448 : ℝ) : EReal) 0) = 0 := by
    rw [max_eq_right (by exact_mod_cast (by norm_num : (-448 : ℝ) ≤ 0)), min_eq_right (by exact_mod_cast (by norm_num : (0 : ℝ) ≤ 448))]
  rw [h, zero_mul]

/-- The reference gives an entry between zero and a positive maximum back, -/
theorem refQ_real {a t : ℝ} (ha : 0 < a) (h0 : 0 ≤ t) (ht : t ≤ a) : refQ a t = (t : EReal) := by
  have hs : (a * (1 / 448) : ℝ) ≠ 0 := by positivity
  have hq : t * (1 / (a * (1 / 448))) ≤ 448 := by
    rw [show t * (1 / (a * (1 / 448))) = 448 * (t / a) by field_simp]
    have : t / a ≤ 1 := (div_le_one ha).2 ht
    linarith
  have hq0 : (-448 : ℝ) ≤ t * (1 / (a * (1 / 448))) := le_trans (by norm_num) (by positivity : (0 : ℝ) ≤ _)
  rw [refQ, div_448, ← EReal.coe_mul, Ideal.div_coe hs, ← EReal.coe_mul,
    max_eq_right (by exact_mod_cast hq0), min_eq_right (by exact_mod_cast hq), ← EReal.coe_mul]
  congr 1
  field_simp

/-- and zero back where everything is zero. -/
theorem refQ_zero (y : EReal) : refQ 0 y = 0 := by
  rw [refQ, div_448, zero_mul, mul_zero]

/-- The two quantisers agree on an entry between zero and the maximum. -/
theorem quant_eq {e : ℝ} (he : 0 < e) {a y : EReal} (h0 : 0 ≤ y) (hy : y ≤ a) : kernQ (max a e) y = refQ a y := by
  induction a with
  | bot => exact absurd (h0.trans hy) (by simp)
  | top => rw [max_eq_left le_top, kernQ_top, refQ_top]
  | coe r =>
    induction y with
    | bot => exact absurd h0 (by simp)
    | top => exact absurd hy (by simp)
    | coe t =>
      have ht0 : 0 ≤ t := by exact_mod_cast h0
      have htr : t ≤ r := by exact_mod_cast hy
      rw [← EReal.coe_strictMono.monotone.map_max, kernQ_real (lt_max_of_lt_right he)]
      rcases (ht0.trans htr).eq_or_lt with hr | hr
      · obtain rfl : t = 0 := le_antisymm (htr.trans hr.symm.le) ht0
        rw [← hr, EReal.coe_zero, refQ_zero]
      · rw [refQ_real hr ht0 htr]

end Cert.Proof

end
-- ==== Proof.Maxima.lean ====
/-
# The maximum of an array

Both programs take the maximum of a matrix as a reduction over all of it from minus infinity. Over the extended reals it is
at most `z` exactly when every entry is.
-/
module

public import proofs.«01_k».proof.Proof.Quant
public import Idealize.ShloMosaic.PureOps.Reduce

@[expose] public section

noncomputable section

namespace Cert.Proof

open Idealize.ShloMosaic

/-- There is one index into a vector of one entry. -/
theorem idx_one (i j : (⟨1, ![1]⟩ : Shape).Idx) : i = j := by
  funext a
  match a with
  | ⟨0, _⟩ =>
    have h₁ : (i 0).val < 1 := (i 0).isLt
    have h₂ : (j 0).val < 1 := (j 0).isLt
    exact Fin.ext (show (i 0).val = (j 0).val by omega)

/-- The maximum of a matrix is at most `z` exactly when every entry is. -/
theorem maxOf_le {a b : ℕ} (V : FVec Ideal ⟨2, ![a, b]⟩ .f32) (h₁ : (⟨2, ![a, b]⟩ : Shape).ShapeCasts ⟨3, ![1, a, b]⟩)
    (h₂ : (⟨3, ![1, a, b]⟩ : Shape).Reduces [1, 2] ⟨1, ![1]⟩) (hφ : FKind.Formats .f32)
    (hacc : (0xFF800000#32 : BitVec FTy.f32.bits) = FKind.maximumf.neutral .f32 hφ)
    (h₃ : (⟨1, ![1]⟩ : Shape).ShapeCasts ⟨3, ![1, 1, 1]⟩) (h₄ : ∀ d, (![0, 0, 0] : Fin 3 → ℕ) d < (⟨3, ![1, 1, 1]⟩ : Shape).size d) (z : EReal) :
    (extractAt ![0, 0, 0] (shapeCast ⟨3, ![1, 1, 1]⟩ (multiReduction .maximumf [1, 2] ⟨1, ![1]⟩ (shapeCast ⟨3, ![1, a, b]⟩ V h₁)
      0xFF800000#32 h₂ hφ hacc) h₃) h₄ : EReal) ≤ z ↔ ∀ i, (V i : EReal) ≤ z := by
  haveI : Std.Commutative (FloatOps.maximumf (F := Ideal) (φ := .f32)) := ⟨fun x y => max_comm (α := EReal) x y⟩
  haveI : Std.Associative (FloatOps.maximumf (F := Ideal) (φ := .f32)) := ⟨fun x y w => max_assoc (α := EReal) x y w⟩
  unfold extractAt
  rw [shapeCast, multiReduction_maximumf_eq_fold]
  rw [Finset.filter_true_of_mem (fun i _ => idx_one _ _)]
  show Finset.fold (max : EReal → EReal → EReal) (Ideal.ofBits .f32 0xFF800000#32) _ _ ≤ z ↔ _
  rw [Finset.fold_max_le, word_bot]
  refine ⟨fun h i => ?_, fun h => ⟨bot_le, fun i _ => h _⟩⟩
  have := h.2 ((Shape.reshapeEquiv h₁).symm i) (Finset.mem_univ _)
  rw [shapeCast, Equiv.apply_symm_apply] at this
  exact this

end Cert.Proof

end
-- ==== Proof.RefRead.lean ====
/-
# What the reference computes, entry by entry

The product's entry is one sum of 4096 products; negative entries become zero; the result is the quantiser at the maximum of
all entries.
-/
module

public import proofs.«01_k».proof.Proof.Maxima
public import proofs.«01_k».proof.Proof.Gen.ReferenceIdeal.Value
public import Idealize.ShloMosaic.Lib.MatmulPlain

@[expose] public section

noncomputable section

namespace Cert.Proof

open Idealize.ShloMosaic Idealize.ShloMosaic.ValueIdx Cert.ReferenceIdeal Cert.ReferenceIdeal.Gen

/-- An entry of the product, negative ones replaced by zero. -/
def prodR (X : FVec Ideal S4096x4096 .f32) (W : FVec Ideal S4096x8192 .f32) (r : Fin 4096) (l : Fin 8192) : EReal :=
  max (∑ k : Fin 4096, (X (ix2 r k) * W (ix2 k l) : EReal)) 0

/-- The reference's array before the quantiser. -/
def reluR (X : FVec Ideal S4096x4096 .f32) (W : FVec Ideal S4096x8192 .f32) : FVec Ideal S4096x8192 .f32 :=
  maximumf (matmul dot_S4096x4096_S4096x8192_S4096x8192_1_0_0_1_n_n none X W (constant S4096x8192 .f32 0x00000000#32))
    (broadcast S4096x8192 (Scalar.ofBits .f32 0x00000000#32))

/-- Its entry at row `r`, column `l`; -/
theorem reluR_at (X : FVec Ideal S4096x4096 .f32) (W : FVec Ideal S4096x8192 .f32) (r : Fin 4096) (l : Fin 8192) :
    reluR X W (ix2 r l) = prodR X W r l := by
  have h : FloatOps.matmul (F := Ideal) (DotDims.plain 4096 4096 8192) none X W (constant S4096x8192 .f32 0x00000000#32) (ix2 r l)
      = ∑ k : Fin 4096, (X (ix2 r k) * W (ix2 k l) : EReal) := by
    rw [Ideal.matmul_plain_apply]
    show Ideal.ofBits .f32 0x00000000#32 + _ = _
    rw [Ideal.ofBits_zero_f32, zero_add]
  exact congrArg₂ (max : EReal → EReal → EReal) h Ideal.ofBits_zero_f32

/-- at any index. -/
theorem reluR_apply (X : FVec Ideal S4096x4096 .f32) (W : FVec Ideal S4096x8192 .f32) (i : S4096x8192.Idx) :
    reluR X W i = prodR X W (i 0) (i 1) :=
  (congrArg (reluR X W) (eq_ix2 i)).trans (reluR_at X W (i 0) (i 1))

theorem prodR_nonneg (X : FVec Ideal S4096x4096 .f32) (W : FVec Ideal S4096x8192 .f32) (r : Fin 4096) (l : Fin 8192) :
    0 ≤ prodR X W r l := le_max_right _ _

/-- The maximum of the absolute values, as the reference takes it. -/
def maxR (X : FVec Ideal S4096x4096 .f32) (W : FVec Ideal S4096x8192 .f32) : EReal :=
  extractAt ![0, 0, 0] (shapeCast S1x1x1 (multiReduction .maximumf [1, 2] S1 (shapeCast S1x4096x8192 (absf (reluR X W)) shapeCasts_S4096x8192_S1x4096x8192)
    0xFF800000#32 reduces_S1x4096x8192_S1 (.inl rfl) rfl) shapeCasts_S1_S1x1x1) inpos_S1x1x1_p0_0_0

/-- It is at most `z` exactly when every entry is: an entry is its own absolute value. -/
theorem maxR_le (X : FVec Ideal S4096x4096 .f32) (W : FVec Ideal S4096x8192 .f32) (z : EReal) :
    maxR X W ≤ z ↔ ∀ r l, prodR X W r l ≤ z := by
  have habs : ∀ i : S4096x8192.Idx, (absf (reluR X W) i : EReal) = prodR X W (i 0) (i 1) := fun i => by
    show max (reluR X W i : EReal) (-reluR X W i) = _
    rw [reluR_apply]
    exact max_eq_left ((EReal.neg_le_zero.2 (prodR_nonneg X W _ _)).trans (prodR_nonneg X W _ _))
  refine (maxOf_le (absf (reluR X W)) _ _ _ _ _ _ z).trans ⟨fun h r l => ?_, fun h i => (habs i).trans_le (h _ _)⟩
  exact (habs (ix2 r l)).symm.trans_le (h (ix2 r l))

/-- Every entry is at most the maximum. -/
theorem prodR_le (X : FVec Ideal S4096x4096 .f32) (W : FVec Ideal S4096x8192 .f32) (r : Fin 4096) (l : Fin 8192) :
    prodR X W r l ≤ maxR X W := (maxR_le X W _).1 le_rfl r l

/-- The reference's result at an index. -/
theorem G2_apply (X : FVec Ideal S4096x4096 .f32) (W : FVec Ideal S4096x8192 .f32) (i : S4096x8192.Idx) :
    Cert.ReferenceIdeal.Value.G2 (F := Ideal) X W i = refQ (maxR X W) (prodR X W (i 0) (i 1)) := by
  rw [← reluR_apply, refQ, ← word_448, ← word_neg448]
  rfl

end Cert.Proof

end
-- ==== Proof.Sums.lean ====
/-
# One long sum as eight sums of 512

The kernel adds the eight block products in the order in which the blocks arrive; over the extended reals that is the one
sum along the contracted axis.
-/
module

public import proofs.«01_k».proof.Proof.Values
public import proofs.«01_k».proof.Proof.RefRead

@[expose] public section

noncomputable section

namespace Cert.Proof

open Idealize.ShloMosaic Idealize.ShloMosaic.TcCoe Idealize.ShloMosaic.ValueIdx Cert.KernelIdeal Cert.KernelIdeal.Gen Cert.KernelIdeal.Run

/-- Position `k` of block `s` along the contracted axis. -/
def longPos (s : Fin 8) (k : Fin 512) : Fin 4096 := ⟨512 * s.val + k.val, by omega⟩

/-- A sum along the axis is the sum over the blocks of the sums in each. -/
theorem sum_blocks (f : Fin 4096 → EReal) : ∑ q, f q = ∑ s : Fin 8, ∑ k : Fin 512, f (longPos s k) := by
  rw [← Fintype.sum_prod_type', ← Equiv.sum_comp (finProdFinEquiv (m := 8) (n := 512))]
  refine Finset.sum_congr rfl fun p _ => congrArg f (Fin.ext ?_)
  show p.2.val + 512 * p.1.val = 512 * p.1.val + p.2.val
  omega

/-- Going round the devices backwards from `c` meets each once. -/
theorem dn_bijective (c : Fin 8) : Function.Bijective (fun d : Fin 8 => (dn c d : Fin 8)) := by
  revert c; decide

/-- So a sum over the devices may be taken in that order. -/
theorem sum_dn (c : Fin 8) (f : Fin 8 → EReal) : ∑ d : Fin 8, f (dn c d) = ∑ s, f s :=
  (dn_bijective c).sum_comp f

/-- A block product read at row `a`, column `b`. -/
theorem mm_at (X : FVec Ideal S512x512 .bf16) (W : FVec Ideal S512x1024 .f32) (a : Fin 512) (b : Fin 1024) :
    mm X W (ValueIdx.ix2 a b) = ∑ k : Fin 512, (X (ValueIdx.ix2 a k) * W (ValueIdx.ix2 k b) : EReal) := by
  have h : FloatOps.matmul (F := Ideal) (DotDims.plain 512 512 1024) none (extf .f32 X bitsLt_bf16_f32) W (constant S512x1024 .f32 0x00000000#32) (ValueIdx.ix2 a b)
      = ∑ k : Fin 512, (X (ValueIdx.ix2 a k) * W (ValueIdx.ix2 k b) : EReal) := by
    rw [Ideal.matmul_plain_apply]
    show Ideal.ofBits .f32 0x00000000#32 + _ = _
    rw [Ideal.ofBits_zero_f32, zero_add]
    rfl
  exact h

variable (m : (ℓ : Loc nD τ sig) → Buf (Elt Ideal) ℓ)

/-- The block product that device `c` adds for device `s`'s block, at an entry of chunk `j`. -/
def part (c s : Fin 8) (j : Fin 8) (a : Fin 512) (b : Fin 1024) : EReal :=
  mm (xBlkV m s c) (wBlkV m c s j) (ValueIdx.ix2 a b)

/-- All eight added up. -/
theorem accV_seven (c j : Fin 8) (a : Fin 512) (b : Fin 1024) :
    (accV m c j 7 (ValueIdx.ix2 a b) : EReal) = ∑ s : Fin 8, part m c s j a b := by
  rw [← sum_dn c]
  simp only [Fin.sum_univ_succ, Fin.sum_univ_zero, add_zero, ← add_assoc]
  rfl

/-! ## Against the whole arrays -/

variable (X : FVec Ideal Cert.ReferenceIdeal.S4096x4096 .f32) (W : FVec Ideal Cert.ReferenceIdeal.S4096x8192 .f32)

/-- Column `b` of chunk `j`. -/
def chunkPos (j : Fin 8) (b : Fin 1024) : Fin 8192 := ⟨1024 * j.val + b.val, by omega⟩

/-- The devices hold the whole arrays: `x` cut by columns, `w` each in full. -/
structure Holds : Prop where
  x : ∀ c : Dev nD, xIn m c = Layout.block ⟨2, ![4096, 512]⟩ ⟨2, ![4096, 4096]⟩ 1 8 c X
  w : ∀ c : Dev nD, wIn m c = W

variable {m X W}

theorem Holds.xBlk (h : Holds m X W) (s c : Fin 8) (a k : Fin 512) :
    (xBlkV m s c (ValueIdx.ix2 a k) : EReal) = X (ValueIdx.ix2 (longPos c a) (longPos s k)) := by
  show (xIn m s (rowIx c (ValueIdx.ix2 a k)) : EReal) = _
  rw [h.x s]
  refine congrArg X (funext fun d => Fin.ext ?_)
  match d with
  | ⟨0, _⟩ => rfl
  | ⟨1, _⟩ => show s.val * 512 + k.val = 512 * s.val + k.val; omega

theorem Holds.wBlk (h : Holds m X W) (c s j : Fin 8) (k : Fin 512) (b : Fin 1024) :
    (wBlkV m c s j (ValueIdx.ix2 k b) : EReal) = W (ValueIdx.ix2 (longPos s k) (chunkPos j b)) := by
  show (wIn m c (wIx s j (ValueIdx.ix2 k b)) : EReal) = _
  rw [h.w c]
  refine congrArg W (funext fun d => ?_)
  match d with
  | ⟨0, _⟩ => rfl
  | ⟨1, _⟩ => rfl

/-- An entry that device `c` accumulates, negative ones replaced by zero, is the reference's at its row and column. -/
theorem Holds.fin_at (h : Holds m X W) (c j : Fin 8) (a : Fin 512) (b : Fin 1024) :
    (finV m c j (ValueIdx.ix2 a b) : EReal) = prodR X W (longPos c a) (chunkPos j b) := by
  have hs : (accV m c j 7 (ValueIdx.ix2 a b) : EReal) = ∑ k : Fin 4096, (X (ValueIdx.ix2 (longPos c a) k) * W (ValueIdx.ix2 k (chunkPos j b)) : EReal) := by
    rw [accV_seven, sum_blocks]
    refine Finset.sum_congr rfl fun s _ => (mm_at _ _ a b).trans (Finset.sum_congr rfl fun k _ => ?_)
    rw [h.xBlk, h.wBlk]
  exact congrArg₂ (max : EReal → EReal → EReal) hs Ideal.ofBits_zero_f32

/-- The same at any index of the chunk. -/
theorem Holds.fin_apply (h : Holds m X W) (c j : Fin 8) (i : S512x1024.Idx) :
    (finV m c j i : EReal) = prodR X W (longPos c (i 0)) (chunkPos j (i 1)) :=
  (congrArg (finV m c j) (eq_ix2 i)).trans (h.fin_at c j (i 0) (i 1))

/-- The same in the whole buffer: column `l` is in chunk `l / 1024`. -/
theorem Holds.finW_apply (h : Holds m X W) (c : Fin 8) (i : S512x8192.Idx) :
    (finW m c i : EReal) = prodR X W (longPos c (i 0)) (i 1) := by
  refine (h.fin_apply c (chunkOf i) (chunkIx i)).trans (congrArg (prodR X W _) (Fin.ext ?_))
  show 1024 * ((i 1).val / 1024) + (i 1).val % 1024 = (i 1).val
  omega

end Cert.Proof

end
-- ==== Proof.Bridge.lean ====
/-
# The kernel's result is the device's rows of the reference's

The maxima that the devices exchange give each of them the reference's maximum (kept above a small constant), the products
are the reference's rows, and the two quantisers agree.
-/
module

public import proofs.«01_k».proof.Proof.Sums

@[expose] public section

noncomputable section

namespace Cert.Proof

open Idealize.ShloMosaic Idealize.ShloMosaic.TcCoe Idealize.ShloMosaic.ValueIdx Cert.KernelIdeal Cert.KernelIdeal.Gen Cert.KernelIdeal.Run

variable {m : (ℓ : Loc nD τ sig) → Buf (Elt Ideal) ℓ}
variable {X : FVec Ideal Cert.ReferenceIdeal.S4096x4096 .f32} {W : FVec Ideal Cert.ReferenceIdeal.S4096x8192 .f32}

/-- The kernel's least maximum. -/
def tiny : EReal := Ideal.ofBits .f32 0x0DA24260#32

/-- The larger of two scalars. -/
theorem scalarMax_eq (x y : Ideal .f32) : (Scalar.maximumf x y : EReal) = max (x : EReal) y := rfl

/-- A chunk's maximum is at most `z` exactly when its entries are. -/
theorem cmax_le (V : FVec Ideal S512x1024 .f32) (z : EReal) : (cmax V : EReal) ≤ z ↔ ∀ i, (V i : EReal) ≤ z := by
  unfold cmax
  exact maxOf_le V _ _ _ _ _ _ z

theorem mrun_zero (c : Fin 8) : (mrun m c 0 : EReal) = 0 := Ideal.ofBits_zero_f32
theorem mrun_succ (c : Fin 8) (n : ℕ) : mrun m c (n + 1) = Scalar.maximumf (mrun m c n) (cmax (finV m c (Fin.ofNat 8 n))) := by
  rw [mrun]

/-- The running maximum is at most `z` exactly when zero and the entries of the chunks so far are. -/
theorem mrun_le (c : Fin 8) (z : EReal) (n : ℕ) :
    (mrun m c n : EReal) ≤ z ↔ 0 ≤ z ∧ ∀ k < n, ∀ i, (finV m c (Fin.ofNat 8 k) i : EReal) ≤ z := by
  induction n with
  | zero => rw [mrun_zero]; exact ⟨fun h => ⟨h, fun k hk => absurd hk (Nat.not_lt_zero k)⟩, fun h => h.1⟩
  | succ n ih =>
    rw [mrun_succ, scalarMax_eq, max_le_iff, ih, cmax_le]
    refine ⟨fun h => ⟨h.1.1, fun k hk => ?_⟩, fun h => ⟨⟨h.1, fun k hk => h.2 k (hk.trans (Nat.lt_succ_self n))⟩, h.2 n (Nat.lt_succ_self n)⟩⟩
    rcases Nat.lt_succ_iff_lt_or_eq.1 hk with hk | rfl
    · exact h.1.2 k hk
    · exact h.2

/-- A device's maximum is at most `z` exactly when the entries of its rows are. -/
theorem Holds.mloc_le (h : Holds m X W) (c : Fin 8) (z : EReal) :
    (mloc m c : EReal) ≤ z ↔ ∀ (a : Fin 512) l, prodR X W (longPos c a) l ≤ z := by
  rw [mloc, mrun_le]
  refine ⟨fun hz a l => ?_, fun hz => ⟨(prodR_nonneg X W _ _).trans (hz 0 0), fun k _ i => ?_⟩⟩
  · have hl : chunkPos (Fin.ofNat 8 (l.val / 1024)) ⟨l.val % 1024, Nat.mod_lt _ (by decide)⟩ = l := by
      apply Fin.ext
      show 1024 * (l.val / 1024 % 8) + l.val % 1024 = l.val
      omega
    have := hz.2 (l.val / 1024) (by omega) (ValueIdx.ix2 a ⟨l.val % 1024, Nat.mod_lt _ (by decide)⟩)
    rw [h.fin_at, hl] at this
    exact this
  · rw [h.fin_apply]
    exact hz _ _

/-- Every row is some device's. -/
theorem longPos_surj (r : Fin 4096) : ∃ (s : Fin 8) (k : Fin 512), longPos s k = r :=
  ⟨⟨r.val / 512, by omega⟩, ⟨r.val % 512, Nat.mod_lt _ (by decide)⟩, Fin.ext (by show 512 * (r.val / 512) + r.val % 512 = r.val; omega)⟩

/-- A device's global maximum is at most `z` exactly when the gathered ones and the constant are. -/
theorem gmax_le (c : Dev nD) (z : EReal) : (gmax m c : EReal) ≤ z ↔ (∀ i, (gaV m c i : EReal) ≤ z) ∧ tiny ≤ z := by
  unfold gmax
  rw [scalarMax_eq, max_le_iff]
  exact and_congr (maxOf_le (gaV m c) _ _ _ _ _ _ z) Iff.rfl

/-- Every device's global maximum is the reference's, kept above the constant. -/
theorem Holds.gmax_eq (h : Holds m X W) (c : Fin 8) : (gmax m c : EReal) = max (maxR X W) tiny := by
  refine eq_of_forall_ge_iff fun z => ?_
  rw [max_le_iff, maxR_le, gmax_le]
  refine and_congr_left fun _ => ⟨fun hz r l => ?_, fun hz i => ?_⟩
  · obtain ⟨s, k, rfl⟩ := longPos_surj r
    obtain ⟨d, rfl⟩ := (dn_bijective c).surjective s
    have := hz (ValueIdx.ix2 d 0)
    rw [gaV] at this
    exact (h.mloc_le (dn c d) z).1 this k l
  · rw [gaV]
    exact (h.mloc_le _ z).2 fun a l => hz _ _

/-- The last step on one entry. -/
theorem qdq_apply (g : Ideal .f32) (Y : FVec Ideal S512x2048 .f32) (i : S512x2048.Idx) : (qdq g Y i : EReal) = kernQ g (Y i) := by
  rw [kernQ, ← word_448]
  rfl

/-- The column blocks of the last step tile the buffer. -/
theorem blkIx_colBlk (i : S512x8192.Idx) : blkIx (colBlk i) (colBlkIx i) = i := funext fun d => Fin.ext (by
  match d with
  | ⟨0, _⟩ => rfl
  | ⟨1, _⟩ => show 2048 * ((i 1).val / 2048) + (i 1).val % 2048 = (i 1).val; omega)

/-- The result's entry at row `a`, column `l` of device `c`'s block. -/
theorem Holds.out_at (h : Holds m X W) (c : Fin 8) (a : Fin 512) (l : Fin 8192) :
    (outV m c (ValueIdx.ix2 a l) : EReal) = refQ (maxR X W) (prodR X W (longPos c a) l) := by
  obtain ⟨e, he, hw⟩ := word_tiny
  have hf : (finW m c (ValueIdx.ix2 a l) : EReal) = prodR X W (longPos c a) l := h.finW_apply c _
  rw [outV, qdq_apply, blkIx_colBlk, hf, h.gmax_eq, tiny, hw]
  exact quant_eq he (prodR_nonneg X W _ _) (prodR_le X W _ _)

/-- The result on device `c` is its block of rows of the reference's result. -/
theorem Holds.out_eq (h : Holds m X W) (c : Dev nD) :
    outV m c = Layout.block ⟨2, ![512, 8192]⟩ ⟨2, ![4096, 8192]⟩ 0 8 c (Cert.ReferenceIdeal.Value.G2 (F := Ideal) X W) := by
  funext i
  rw [Layout.block_apply, G2_apply]
  refine (congrArg (outV m c) (eq_ix2 i)).trans ((h.out_at c (i 0) (i 1)).trans ?_)
  refine congrArg₂ (fun r l => refQ (maxR X W) (prodR X W r l)) (Fin.ext ?_) (Fin.ext rfl)
  show 512 * c.val + (i 0).val = c.val * 512 + (i 0).val
  omega

end Cert.Proof

end
-- ==== Proof.Algebraic.lean ====
/-
# The value claim

From devices that hold their blocks of the whole arrays, each device ends with its rows of the reference's result.
-/
module

public import proofs.«01_k».proof.Defs
public import proofs.«01_k».proof.Proof.Launch
public import proofs.«01_k».proof.Proof.Bridge

@[expose] public section

noncomputable section

namespace Cert.Proof

open Idealize.ShloMosaic Idealize.SL.Sem

/-- Kernel and reference compute the same function over the extended reals. -/
theorem algebraic : Cert.algebraic_KernelIdeal_ReferenceIdeal := fun m g m' g' _ hm =>
  have h : Holds m _ _ := ⟨fun c => (hm c).1, fun c => (hm c).2⟩
  ⟨Cert.ReferenceIdeal.Value.G2 (F := Ideal) _ _,
    (θ_run Cert.KernelIdeal.defs _ _).mono (fun _ hr c => ⟨(hr.1 c).1.trans (h.out_eq c), (hr.1 c).2⟩)
      (Cert.KernelIdeal.Run.run_main (F := Ideal) m g),
    (θ_run Cert.ReferenceIdeal.defs _ _).mono (fun _ hr => hr 0) (Cert.ReferenceIdeal.Value.run (F := Ideal) m' g')⟩

end Cert.Proof

end
-- ==== Proof.lean ====
/-
# The certificate

The three programs' frames and the value claim, each from its own module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All the claims, each from its module. -/
theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, algebraic⟩

end Cert.Proof

end
